-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v38) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x6144 : Shape := ⟨2, ![16384, 6144]⟩
abbrev S1x16x513 : Shape := ⟨3, ![1, 16, 513]⟩
abbrev S16384x2048 : Shape := ⟨2, ![16384, 2048]⟩
abbrev S_ : Shape := ⟨0, ![]⟩

class Facts : Prop where
  slices_S16384x6144_S16384x2048_0_0 : S16384x6144.Slices ![0, 0] S16384x2048
  bcast_S_S16384x2048 : S_.BroadcastsInDim S16384x2048 (![] : Fin 0 → Fin S16384x2048.rank)
  bcast_S_S1x16x513 : S_.BroadcastsInDim S1x16x513 (![] : Fin 0 → Fin S1x16x513.rank)

variable [Facts]

def fn {F : FTy → Type} [FloatOps F] (main_arg0 : FVec F S16384x6144 .bf16) (main_arg1 : FVec F S1x16x513 .f32) : IVec S16384x2048 1 × IVec S1x16x513 1 :=
  let main_v0 : FVec F S16384x2048 .bf16 := (extractStridedSlice S16384x2048 ![0, 0] · slices_S16384x6144_S16384x2048_0_0) main_arg0
  let main_v1 : FVec F S16384x2048 .bf16 := Host.absf main_v0
  let main_cst : FVec F S_ .bf16 := constant S_ .bf16 0x7F80#16
  let main_v2 : FVec F S16384x2048 .bf16 := broadcastInDim S16384x2048 ![] bcast_S_S16384x2048 main_cst
  let main_v3 : IVec S16384x2048 1 := cmpf .olt main_v1 main_v2
  let main_v4 : FVec F S1x16x513 .f32 := Host.absf main_arg1
  let main_cst_0 : FVec F S_ .f32 := constant S_ .f32 0x7F800000#32
  let main_v5 : FVec F S1x16x513 .f32 := broadcastInDim S1x16x513 ![] bcast_S_S1x16x513 main_cst_0
  let main_v6 : IVec S1x16x513 1 := cmpf .olt main_v4 main_v5
  (main_v3, main_v6)
-- ==== Kernel.lean ====
abbrev S16384x6144 : Shape := ⟨2, ![16384, 6144]⟩
abbrev S1x16x513 : Shape := ⟨3, ![1, 16, 513]⟩
abbrev S16x513 : Shape := ⟨2, ![16, 513]⟩
abbrev S16x1 : Shape := ⟨2, ![16, 1]⟩
abbrev S16x384 : Shape := ⟨2, ![16, 384]⟩
abbrev S16x383 : Shape := ⟨2, ![16, 383]⟩
abbrev S16x767 : Shape := ⟨2, ![16, 767]⟩
abbrev S1x16x1x767 : Shape := ⟨4, ![1, 16, 1, 767]⟩
abbrev S1x16x128x767 : Shape := ⟨4, ![1, 16, 128, 767]⟩
abbrev S16x98176 : Shape := ⟨2, ![16, 98176]⟩
abbrev S16x98048 : Shape := ⟨2, ![16, 98048]⟩
abbrev S16x128x766 : Shape := ⟨3, ![16, 128, 766]⟩
abbrev S16x128x640 : Shape := ⟨3, ![16, 128, 640]⟩
abbrev S128 : Shape := ⟨1, ![128]⟩
abbrev S128x1 : Shape := ⟨2, ![128, 1]⟩
abbrev S_ : Shape := ⟨0, ![]⟩
abbrev S640 : Shape := ⟨1, ![640]⟩
abbrev S1x640 : Shape := ⟨2, ![1, 640]⟩
abbrev S128x640 : Shape := ⟨2, ![128, 640]⟩
abbrev S1x128x640 : Shape := ⟨3, ![1, 128, 640]⟩
abbrev S16384x1024 : Shape := ⟨2, ![16384, 1024]⟩
abbrev S256x1024 : Shape := ⟨2, ![256, 1024]⟩
abbrev S256x128 : Shape := ⟨2, ![256, 128]⟩
abbrev S768x128 : Shape := ⟨2, ![768, 128]⟩
abbrev S128x128 : Shape := ⟨2, ![128, 128]⟩
abbrev S256x256 : Shape := ⟨2, ![256, 256]⟩
abbrev S128x256 : Shape := ⟨2, ![128, 256]⟩
abbrev S128x768 : Shape := ⟨2, ![128, 768]⟩
abbrev S256x768 : Shape := ⟨2, ![256, 768]⟩

abbrev nBuf : Space → Nat
  | .hbm => 74
  | .vmem => 17
  | .smem => 0
  | _ => 0

abbrev bufTy : (tb : Table) → Fin (tcTables nBuf tb) → BufTy
  | .hbm, ⟨0, _⟩ => ⟨S16384x6144, .bf16⟩
  | .hbm, ⟨1, _⟩ => ⟨S1x16x513, .f32⟩
  | .hbm, ⟨2, _⟩ => ⟨S16x513, .f32⟩
  | .hbm, ⟨3, _⟩ => ⟨S16x1, .f32⟩
  | .hbm, ⟨4, _⟩ => ⟨S16x384, .f32⟩
  | .hbm, ⟨5, _⟩ => ⟨S16x383, .f32⟩
  | .hbm, ⟨6, _⟩ => ⟨S16x383, .f32⟩
  | .hbm, ⟨7, _⟩ => ⟨S16x767, .f32⟩
  | .hbm, ⟨8, _⟩ => ⟨S1x16x1x767, .f32⟩
  | .hbm, ⟨9, _⟩ => ⟨S1x16x128x767, .f32⟩
  | .hbm, ⟨10, _⟩ => ⟨S16x98176, .f32⟩
  | .hbm, ⟨11, _⟩ => ⟨S16x98048, .f32⟩
  | .hbm, ⟨12, _⟩ => ⟨S16x128x766, .f32⟩
  | .hbm, ⟨13, _⟩ => ⟨S16x128x640, .f32⟩
  | .hbm, ⟨14, _⟩ => ⟨S128, .i32⟩
  | .hbm, ⟨15, _⟩ => ⟨S128x1, .i32⟩
  | .hbm, ⟨16, _⟩ => ⟨S_, .i32⟩
  | .hbm, ⟨17, _⟩ => ⟨S_, .i32⟩
  | .hbm, ⟨18, _⟩ => ⟨S128x1, .i32⟩
  | .hbm, ⟨19, _⟩ => ⟨S128x1, .i32⟩
  | .hbm, ⟨20, _⟩ => ⟨S128x1, .i32⟩
  | .hbm, ⟨21, _⟩ => ⟨S_, .i32⟩
  | .hbm, ⟨22, _⟩ => ⟨S128x1, .i32⟩
  | .hbm, ⟨23, _⟩ => ⟨S128x1, .i1⟩
  | .hbm, ⟨24, _⟩ => ⟨S128x1, .i32⟩
  | .hbm, ⟨25, _⟩ => ⟨S128x1, .i32⟩
  | .hbm, ⟨26, _⟩ => ⟨S_, .i32⟩
  | .hbm, ⟨27, _⟩ => ⟨S128x1, .i32⟩
  | .hbm, ⟨28, _⟩ => ⟨S128x1, .i1⟩
  | .hbm, ⟨29, _⟩ => ⟨S128x1, .i1⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x1, .i32⟩
  | .hbm, ⟨34, _⟩ => ⟨S640, .i32⟩
  | .hbm, ⟨35, _⟩ => ⟨S1x640, .i32⟩
  | .hbm, ⟨36, _⟩ => ⟨S_, .i32⟩
  | .hbm, ⟨37, _⟩ => ⟨S_, .i32⟩
  | .hbm, ⟨38, _⟩ => ⟨S1x640, .i32⟩
  | .hbm, ⟨39, _⟩ => ⟨S1x640, .i32⟩
  | .hbm, ⟨40, _⟩ => ⟨S1x640, .i32⟩
  | .hbm, ⟨41, _⟩ => ⟨S_, .i32⟩
  | .hbm, ⟨42, _⟩ => ⟨S1x640, .i32⟩
  | .hbm, ⟨43, _⟩ => ⟨S1x640, .i1⟩
  | .hbm, ⟨44, _⟩ => ⟨S1x640, .i32⟩
  | .hbm, ⟨45, _⟩ => ⟨S1x640, .i32⟩
  | .hbm, ⟨46, _⟩ => ⟨S_, .i32⟩
  | .hbm, ⟨47, _⟩ => ⟨S1x640, .i32⟩
  | .hbm, ⟨48, _⟩ => ⟨S1x640, .i1⟩
  | .hbm, ⟨49, _⟩ => ⟨S1x640, .i1⟩
  | .hbm, ⟨50, _⟩ => ⟨S_, .i32⟩
  | .hbm, ⟨51, _⟩ => ⟨S1x640, .i32⟩
  | .hbm, ⟨52, _⟩ => ⟨S1x640, .i32⟩
  | .hbm, ⟨53, _⟩ => ⟨S1x640, .i32⟩
  | .hbm, ⟨54, _⟩ => ⟨S128x640, .i32⟩
  | .hbm, ⟨55, _⟩ => ⟨S128x640, .i32⟩
  | .hbm, ⟨56, _⟩ => ⟨S128x640, .i1⟩
  | .hbm, ⟨57, _⟩ => ⟨S_, .i32⟩
  | .hbm, ⟨58, _⟩ => ⟨S128x1, .i32⟩
  | .hbm, ⟨59, _⟩ => ⟨S128x1, .i32⟩
  | .hbm, ⟨60, _⟩ => ⟨S_, .i32⟩
  | .hbm, ⟨61, _⟩ => ⟨S128x1, .i32⟩
  | .hbm, ⟨62, _⟩ => ⟨S128x1, .i32⟩
  | .hbm, ⟨63, _⟩ => ⟨S128x640, .i32⟩
  | .hbm, ⟨64, _⟩ => ⟨S128x640, .i32⟩
  | .hbm, ⟨65, _⟩ => ⟨S128x640, .i1⟩
  | .hbm, ⟨66, _⟩ => ⟨S128x640, .i1⟩
  | .hbm, ⟨67, _⟩ => ⟨S1x128x640, .i1⟩
  | .hbm, ⟨68, _⟩ => ⟨S_, .f32⟩
  | .hbm, ⟨69, _⟩ => ⟨S_, .f32⟩
  | .hbm, ⟨70, _⟩ => ⟨S16x128x640, .i1⟩
  | .hbm, ⟨71, _⟩ => ⟨S16x128x640, .f32⟩
  | .hbm, ⟨72, _⟩ => ⟨S16x128x640, .f32⟩
  | .hbm, ⟨73, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S16x128x640, .f32⟩
  | .local _ .vmem, ⟨15, _⟩ => ⟨S256x1024, .bf16⟩
  | .local _ .vmem, ⟨16, _⟩ => ⟨S256x1024, .bf16⟩
  | _, _ => ⟨S16384x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_c_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_v7 : Ref sig .tc := ⟨.hbm, 44, rfl⟩
abbrev main_call1_v8 : Ref sig .tc := ⟨.hbm, 45, rfl⟩
abbrev main_call1_c : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_0 : Ref sig .tc := ⟨.hbm, 50, rfl⟩
abbrev main_call1_v12 : Ref sig .tc := ⟨.hbm, 51, rfl⟩
abbrev main_call1_v13 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_c_1 : Ref sig .tc := ⟨.hbm, 57, rfl⟩
abbrev main_v21 : Ref sig .tc := ⟨.hbm, 58, rfl⟩
abbrev main_v22 : Ref sig .tc := ⟨.hbm, 59, rfl⟩
abbrev main_c_2 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_v30 : Ref sig .tc := ⟨.hbm, 72, rfl⟩
abbrev main_v31 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c1_i32 : BitVec 32 := 1#32
  let c0_i32_0 : BitVec 32 := 0#32
  ![v1.toNat, c1_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_3 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c1_i32 : BitVec 32 := 1#32
  let c0_i32_1 : BitVec 32 := 0#32
  ![v1.toNat, c1_i32.toNat]

def cc0_transform_4 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c2_i32_0 : BitVec 32 := 2#32
  let c0_i32_1 : BitVec 32 := 0#32
  ![v1.toNat, c2_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_6 (i : grid0.Coords) : Fin 2 → Nat :=
  let arg0 : BitVec 32 := BitVec.ofNat 32 (i 0).val
  let c0_i32 : BitVec 32 := 0#32
  let v0 : BitVec 32 := Scalar.subi arg0 c0_i32
  let c0_i32_0 : BitVec 32 := 0#32
  let v1 : BitVec 32 := Scalar.maxsi v0 c0_i32_0
  let c2_i32 : BitVec 32 := 2#32
  let c0_i32_1 : BitVec 32 := 0#32
  ![v1.toNat, c2_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S16x128x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S16384x6144 : Shape := ⟨2, ![16384, 6144]⟩
abbrev S1x16x513 : Shape := ⟨3, ![1, 16, 513]⟩
abbrev S16384x1024 : Shape := ⟨2, ![16384, 1024]⟩
abbrev S256x64x16x64 : Shape := ⟨4, ![256, 64, 16, 64]⟩
abbrev S_ : Shape := ⟨0, ![]⟩
abbrev S16896x1024 : Shape := ⟨2, ![16896, 1024]⟩
abbrev S264x64x16x64 : Shape := ⟨4, ![264, 64, 16, 64]⟩
abbrev S256x576x16x64 : Shape := ⟨4, ![256, 576, 16, 64]⟩
abbrev S64 : Shape := ⟨1, ![64]⟩
abbrev S576 : Shape := ⟨1, ![576]⟩
abbrev S64x1 : Shape := ⟨2, ![64, 1]⟩
abbrev S1x576 : Shape := ⟨2, ![1, 576]⟩
abbrev S64x576 : Shape := ⟨2, ![64, 576]⟩
abbrev S16x513 : Shape := ⟨2, ![16, 513]⟩
abbrev S64x576x1 : Shape := ⟨3, ![64, 576, 1]⟩
abbrev S16x64x576 : Shape := ⟨3, ![16, 64, 576]⟩
abbrev S256x16x64x576 : Shape := ⟨4, ![256, 16, 64, 576]⟩
abbrev S1x16x64x576 : Shape := ⟨4, ![1, 16, 64, 576]⟩
abbrev S256 : Shape := ⟨1, ![256]⟩
abbrev S256x1 : Shape := ⟨2, ![256, 1]⟩
abbrev S256x576 : Shape := ⟨2, ![256, 576]⟩
abbrev S256x1x1x576 : Shape := ⟨4, ![256, 1, 1, 576]⟩
abbrev S256x16x64 : Shape := ⟨3, ![256, 16, 64]⟩
abbrev S256x16x64x1 : Shape := ⟨4, ![256, 16, 64, 1]⟩
abbrev S256x16x64x64 : Shape := ⟨4, ![256, 16, 64, 64]⟩

abbrev nBuf : Space → Nat
  | .hbm => 114
  | .vmem => 0
  | .smem => 0
  | _ => 0

abbrev bufTy : (tb : Table) → Fin (tcTables nBuf tb) → BufTy
  | .hbm, ⟨0, _⟩ => ⟨S16384x6144, .bf16⟩
  | .hbm, ⟨1, _⟩ => ⟨S1x16x513, .f32⟩
  | .hbm, ⟨2, _⟩ => ⟨S16384x1024, .bf16⟩
  | .hbm, ⟨3, _⟩ => ⟨S16384x1024, .f32⟩
  | .hbm, ⟨4, _⟩ => ⟨S16384x1024, .bf16⟩
  | .hbm, ⟨5, _⟩ => ⟨S16384x1024, .f32⟩
  | .hbm, ⟨6, _⟩ => ⟨S16384x1024, .bf16⟩
  | .hbm, ⟨7, _⟩ => ⟨S16384x1024, .f32⟩
  | .hbm, ⟨8, _⟩ => ⟨S256x64x16x64, .f32⟩
  | .hbm, ⟨9, _⟩ => ⟨S_, .i32⟩
  | .hbm, ⟨10, _⟩ => ⟨S_, .f32⟩
  | .hbm, ⟨11, _⟩ => ⟨S16896x1024, .f32⟩
  | .hbm, ⟨12, _⟩ => ⟨S264x64x16x64, .f32⟩
  | .hbm, ⟨13, _⟩ => ⟨S256x64x16x64, .f32⟩
  | .hbm, ⟨14, _⟩ => ⟨S256x64x16x64, .f32⟩
  | .hbm, ⟨15, _⟩ => ⟨S256x64x16x64, .f32⟩
  | .hbm, ⟨16, _⟩ => ⟨S256x64x16x64, .f32⟩
  | .hbm, ⟨17, _⟩ => ⟨S256x64x16x64, .f32⟩
  | .hbm, ⟨18, _⟩ => ⟨S256x64x16x64, .f32⟩
  | .hbm, ⟨19, _⟩ => ⟨S256x64x16x64, .f32⟩
  | .hbm, ⟨20, _⟩ => ⟨S256x64x16x64, .f32⟩
  | .hbm, ⟨21, _⟩ => ⟨S256x64x16x64, .f32⟩
  | .hbm, ⟨22, _⟩ => ⟨S256x576x16x64, .f32⟩
  | .hbm, ⟨23, _⟩ => ⟨S_, .i32⟩
  | .hbm, ⟨24, _⟩ => ⟨S_, .f32⟩
  | .hbm, ⟨25, _⟩ => ⟨S16896x1024, .f32⟩
  | .hbm, ⟨26, _⟩ => ⟨S264x64x16x64, .f32⟩
  | .hbm, ⟨27, _⟩ => ⟨S256x64x16x64, .f32⟩
  | .hbm, ⟨28, _⟩ => ⟨S256x64x16x64, .f32⟩
  | .hbm, ⟨29, _⟩ => ⟨S256x64x16x64, .f32⟩
  | .hbm, ⟨30, _⟩ => ⟨S256x64x16x64, .f32⟩
  | .hbm, ⟨31, _⟩ => ⟨S256x64x16x64, .f32⟩
  | .hbm, ⟨32, _⟩ => ⟨S256x64x16x64, .f32⟩
  | .hbm, ⟨33, _⟩ => ⟨S256x64x16x64, .f32⟩
  | .hbm, ⟨34, _⟩ => ⟨S256x64x16x64, .f32⟩
  | .hbm, ⟨35, _⟩ => ⟨S256x64x16x64, .f32⟩
  | .hbm, ⟨36, _⟩ => ⟨S256x576x16x64, .f32⟩
  | .hbm, ⟨37, _⟩ => ⟨S64, .i32⟩
  | .hbm, ⟨38, _⟩ => ⟨S_, .i32⟩
  | .hbm, ⟨39, _⟩ => ⟨S64, .i32⟩
  | .hbm, ⟨40, _⟩ => ⟨S64, .i32⟩
  | .hbm, ⟨41, _⟩ => ⟨S576, .i32⟩
  | .hbm, ⟨42, _⟩ => ⟨S64x1, .i32⟩
  | .hbm, ⟨43, _⟩ => ⟨S1x576, .i32⟩
  | .hbm, ⟨44, _⟩ => ⟨S64x576, .i32⟩
  | .hbm, ⟨45, _⟩ => ⟨S64x576, .i32⟩
  | .hbm, ⟨46, _⟩ => ⟨S64x576, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S64x576, .i32⟩
  | .hbm, ⟨51, _⟩ => ⟨S64x576, .i32⟩
  | .hbm, ⟨52, _⟩ => ⟨S_, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S64x576, .i32⟩
  | .hbm, ⟨57, _⟩ => ⟨S64x576, .i32⟩
  | .hbm, ⟨58, _⟩ => ⟨S16x513, .f32⟩
  | .hbm, ⟨59, _⟩ => ⟨S_, .i32⟩
  | .hbm, ⟨60, _⟩ => ⟨S64x576, .i32⟩
  | .hbm, ⟨61, _⟩ => ⟨S64x576, .i1⟩
  | .hbm, ⟨62, _⟩ => ⟨S_, .i32⟩
  | .hbm, ⟨63, _⟩ => ⟨S64x576, .i32⟩
  | .hbm, ⟨64, _⟩ => ⟨S64x576, .i32⟩
  | .hbm, ⟨65, _⟩ => ⟨S64x576, .i32⟩
  | .hbm, ⟨66, _⟩ => ⟨S64x576x1, .i32⟩
  | .hbm, ⟨67, _⟩ => ⟨S16x64x576, .f32⟩
  | .hbm, ⟨68, _⟩ => ⟨S256x16x64x576, .f32⟩
  | .hbm, ⟨69, _⟩ => ⟨S_, .f32⟩
  | .hbm, ⟨70, _⟩ => ⟨S256x16x64x576, .f32⟩
  | .hbm, ⟨71, _⟩ => ⟨S256x16x64x576, .f32⟩
  | .hbm, ⟨72, _⟩ => ⟨S1x16x64x576, .f32⟩
  | .hbm, ⟨73, _⟩ => ⟨S256x16x64x576, .f32⟩
  | .hbm, ⟨74, _⟩ => ⟨S256x16x64x576, .f32⟩
  | .hbm, ⟨75, _⟩ => ⟨S256, .i32⟩
  | .hbm, ⟨76, _⟩ => ⟨S256x1, .i32⟩
  | .hbm, ⟨77, _⟩ => ⟨S_, .i32⟩
  | .hbm, ⟨78, _⟩ => ⟨S256x1, .i32⟩
  | .hbm, ⟨79, _⟩ => ⟨S256x1, .i32⟩
  | .hbm, ⟨80, _⟩ => ⟨S_, .i32⟩
  | .hbm, ⟨81, _⟩ => ⟨S576, .i32⟩
  | .hbm, ⟨82, _⟩ => ⟨S576, .i32⟩
  | .hbm, ⟨83, _⟩ => ⟨S1x576, .i32⟩
  | .hbm, ⟨84, _⟩ => ⟨S256x576, .i32⟩
  | .hbm, ⟨85, _⟩ => ⟨S256x576, .i32⟩
  | .hbm, ⟨86, _⟩ => ⟨S256x576, .i32⟩
  | .hbm, ⟨87, _⟩ => ⟨S_, .i32⟩
  | .hbm, ⟨88, _⟩ => ⟨S256x576, .i32⟩
  | .hbm, ⟨89, _⟩ => ⟨S256x576, .i1⟩
  | .hbm, ⟨90, _⟩ => ⟨S256x1x1x576, .i1⟩
  | .hbm, ⟨91, _⟩ => ⟨S_, .f32⟩
  | .hbm, ⟨92, _⟩ => ⟨S_, .f32⟩
  | .hbm, ⟨93, _⟩ => ⟨S256x16x64x576, .i1⟩
  | .hbm, ⟨94, _⟩ => ⟨S256x16x64x576, .f32⟩
  | .hbm, ⟨95, _⟩ => ⟨S256x16x64x576, .f32⟩
  | .hbm, ⟨96, _⟩ => ⟨S_, .f32⟩
  | .hbm, ⟨97, _⟩ => ⟨S256x16x64, .f32⟩
  | .hbm, ⟨98, _⟩ => ⟨S_, .f32⟩
  | .hbm, ⟨99, _⟩ => ⟨S256x16x64, .f32⟩
  | .hbm, ⟨100, _⟩ => ⟨S256x16x64, .f32⟩
  | .hbm, ⟨101, _⟩ => ⟨S256x16x64x1, .f32⟩
  | .hbm, ⟨102, _⟩ => ⟨S256x16x64x576, .f32⟩
  | .hbm, ⟨103, _⟩ => ⟨S256x16x64x576, .f32⟩
  | .hbm, ⟨104, _⟩ => ⟨S256x16x64x576, .f32⟩
  | .hbm, ⟨105, _⟩ => ⟨S_, .f32⟩
  | .hbm, ⟨106, _⟩ => ⟨S256x16x64, .f32⟩
  | .hbm, ⟨107, _⟩ => ⟨S256x16x64x1, .f32⟩
  | .hbm, ⟨108, _⟩ => ⟨S256x16x64x576, .f32⟩
  | .hbm, ⟨109, _⟩ => ⟨S256x16x64x576, .f32⟩
  | .hbm, ⟨110, _⟩ => ⟨S256x16x64x64, .f32⟩
  | .hbm, ⟨111, _⟩ => ⟨S256x64x16x64, .f32⟩
  | .hbm, ⟨112, _⟩ => ⟨S16384x1024, .f32⟩
  | .hbm, ⟨113, _⟩ => ⟨S16384x1024, .bf16⟩
  | _, _ => ⟨S16384x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c_0 : Ref sig .tc := ⟨.hbm, 23, rfl⟩
abbrev main_call1_v0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_c_1 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_c_2 : Ref sig .tc := ⟨.hbm, 47, rfl⟩
abbrev main_c_3 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_call2_v3 : Ref sig .tc := ⟨.hbm, 52, rfl⟩
abbrev main_call2_v4 : Ref sig .tc := ⟨.hbm, 53, rfl⟩
abbrev main_v40 : Ref sig .tc := ⟨.hbm, 54, rfl⟩
abbrev main_c_4 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_5 : Ref sig .tc := ⟨.hbm, 59, rfl⟩
abbrev main_v44 : Ref sig .tc := ⟨.hbm, 60, rfl⟩
abbrev main_v45 : Ref sig .tc := ⟨.hbm, 61, rfl⟩
abbrev main_c_6 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_c_7 : Ref sig .tc := ⟨.hbm, 77, rfl⟩
abbrev main_v59 : Ref sig .tc := ⟨.hbm, 78, rfl⟩
abbrev main_v60 : Ref sig .tc := ⟨.hbm, 79, rfl⟩
abbrev main_c_8 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_9 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_10 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v70 : Ref sig .tc := ⟨.hbm, 95, rfl⟩
abbrev main_cst_11 : Ref sig .tc := ⟨.hbm, 96, rfl⟩
abbrev main_v71 : Ref sig .tc := ⟨.hbm, 97, rfl⟩
abbrev main_cst_12 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_13 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S1024x11264 : Shape := ⟨2, ![1024, 11264]⟩
abbrev S3x11264 : Shape := ⟨2, ![3, 11264]⟩
abbrev S1x11264 : Shape := ⟨2, ![1, 11264]⟩
abbrev S2816x2048 : Shape := ⟨2, ![2816, 2048]⟩
abbrev S512x2048 : Shape := ⟨2, ![512, 2048]⟩
abbrev S16x2048 : Shape := ⟨2, ![16, 2048]⟩
abbrev S1024x512 : Shape := ⟨2, ![1024, 512]⟩
abbrev S3x512 : Shape := ⟨2, ![3, 512]⟩
abbrev S1x512 : Shape := ⟨2, ![1, 512]⟩
abbrev S256x2048 : Shape := ⟨2, ![256, 2048]⟩
abbrev S528x2048 : Shape := ⟨2, ![528, 2048]⟩
abbrev S528x512 : Shape := ⟨2, ![528, 512]⟩
abbrev S512 : Shape := ⟨1, ![512]⟩
abbrev S512x1 : Shape := ⟨2, ![512, 1]⟩
abbrev S16 : Shape := ⟨1, ![16]⟩
abbrev S16x1 : Shape := ⟨2, ![16, 1]⟩
abbrev S272x2048 : Shape := ⟨2, ![272, 2048]⟩
abbrev S2048x512 : Shape := ⟨2, ![2048, 512]⟩
abbrev S272x512 : Shape := ⟨2, ![272, 512]⟩
abbrev S256x512 : Shape := ⟨2, ![256, 512]⟩

abbrev nBuf : Space → Nat
  | .hbm => 7
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1024x11264, .i32⟩
  | .hbm, ⟨3, _⟩ => ⟨S3x11264, .f32⟩
  | .hbm, ⟨4, _⟩ => ⟨S1x11264, .f32⟩
  | .hbm, ⟨5, _⟩ => ⟨S2816x2048, .i32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S1024x512, .i32⟩
  | .local _ .vmem, ⟨6, _⟩ => ⟨S1024x512, .i32⟩
  | .local _ .vmem, ⟨7, _⟩ => ⟨S1024x512, .i32⟩
  | .local _ .vmem, ⟨8, _⟩ => ⟨S1024x512, .i32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S3x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S256x2048, .i32⟩
  | .local _ .vmem, ⟨18, _⟩ => ⟨S256x2048, .i32⟩
  | .local _ .vmem, ⟨19, _⟩ => ⟨S512x2048, .f32⟩
  | .local _ .vmem, ⟨20, _⟩ => ⟨S512x2048, .f32⟩
  | .local _ .vmem, ⟨21, _⟩ => ⟨S528x2048, .bf16⟩
  | .local _ .vmem, ⟨22, _⟩ => ⟨S528x512, .f32⟩
  | .local _ .vmem, ⟨23, _⟩ => ⟨S528x512, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference2Ideal.lean ====
abbrev S16384x2048 : Shape := ⟨2, ![16384, 2048]⟩
abbrev S1x2048 : Shape := ⟨2, ![1, 2048]⟩
abbrev S1024x11264 : Shape := ⟨2, ![1024, 11264]⟩
abbrev S3x11264 : Shape := ⟨2, ![3, 11264]⟩
abbrev S1x11264 : Shape := ⟨2, ![1, 11264]⟩
abbrev S2816x2048 : Shape := ⟨2, ![2816, 2048]⟩
abbrev S_ : Shape := ⟨0, ![]⟩
abbrev S16384 : Shape := ⟨1, ![16384]⟩
abbrev S16384x1 : Shape := ⟨2, ![16384, 1]⟩
abbrev S1024x11264x2 : Shape := ⟨3, ![1024, 11264, 2]⟩
abbrev S1024x2x11264 : Shape := ⟨3, ![1024, 2, 11264]⟩
abbrev S2048x11264 : Shape := ⟨2, ![2048, 11264]⟩
abbrev S16384x11264 : Shape := ⟨2, ![16384, 11264]⟩
abbrev S16386x11264 : Shape := ⟨2, ![16386, 11264]⟩
abbrev S11264 : Shape := ⟨1, ![11264]⟩
abbrev S16384x5632 : Shape := ⟨2, ![16384, 5632]⟩
abbrev S2816x2048x2 : Shape := ⟨3, ![2816, 2048, 2]⟩
abbrev S2816x2x2048 : Shape := ⟨3, ![2816, 2, 2048]⟩
abbrev S5632x2048 : Shape := ⟨2, ![5632, 2048]⟩

abbrev nBuf : Space → Nat
  | .hbm => 77
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1024x11264, .i32⟩
  | .hbm, ⟨3, _⟩ => ⟨S3x11264, .f32⟩
  | .hbm, ⟨4, _⟩ => ⟨S1x11264, .f32⟩
  | .hbm, ⟨5, _⟩ => ⟨S2816x2048, .i32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1024x11264x2, .bf16⟩
  | .hbm, ⟨22, _⟩ => ⟨S1024x2x11264, .bf16⟩
  | .hbm, ⟨23, _⟩ => ⟨S2048x11264, .bf16⟩
  | .hbm, ⟨24, _⟩ => ⟨S2048x11264, .f32⟩
  | .hbm, ⟨25, _⟩ => ⟨S16384x11264, .f32⟩
  | .hbm, ⟨26, _⟩ => ⟨S_, .i32⟩
  | .hbm, ⟨27, _⟩ => ⟨S_, .f32⟩
  | .hbm, ⟨28, _⟩ => ⟨S16386x11264, .f32⟩
  | .hbm, ⟨29, _⟩ => ⟨S16384x11264, .f32⟩
  | .hbm, ⟨30, _⟩ => ⟨S1x11264, .f32⟩
  | .hbm, ⟨31, _⟩ => ⟨S11264, .f32⟩
  | .hbm, ⟨32, _⟩ => ⟨S1x11264, .f32⟩
  | .hbm, ⟨33, _⟩ => ⟨S16384x11264, .f32⟩
  | .hbm, ⟨34, _⟩ => ⟨S16384x11264, .f32⟩
  | .hbm, ⟨35, _⟩ => ⟨S16384x11264, .f32⟩
  | .hbm, ⟨36, _⟩ => ⟨S16384x11264, .f32⟩
  | .hbm, ⟨37, _⟩ => ⟨S16384x11264, .f32⟩
  | .hbm, ⟨38, _⟩ => ⟨S1x11264, .f32⟩
  | .hbm, ⟨39, _⟩ => ⟨S11264, .f32⟩
  | .hbm, ⟨40, _⟩ => ⟨S1x11264, .f32⟩
  | .hbm, ⟨41, _⟩ => ⟨S16384x11264, .f32⟩
  | .hbm, ⟨42, _⟩ => ⟨S16384x11264, .f32⟩
  | .hbm, ⟨43, _⟩ => ⟨S16384x11264, .f32⟩
  | .hbm, ⟨44, _⟩ => ⟨S16384x11264, .f32⟩
  | .hbm, ⟨45, _⟩ => ⟨S1x11264, .f32⟩
  | .hbm, ⟨46, _⟩ => ⟨S11264, .f32⟩
  | .hbm, ⟨47, _⟩ => ⟨S1x11264, .f32⟩
  | .hbm, ⟨48, _⟩ => ⟨S16384x11264, .f32⟩
  | .hbm, ⟨49, _⟩ => ⟨S16384x11264, .f32⟩
  | .hbm, ⟨50, _⟩ => ⟨S16384x11264, .f32⟩
  | .hbm, ⟨51, _⟩ => ⟨S16384x5632, .f32⟩
  | .hbm, ⟨52, _⟩ => ⟨S16384x5632, .f32⟩
  | .hbm, ⟨53, _⟩ => ⟨S16384x5632, .f32⟩
  | .hbm, ⟨54, _⟩ => ⟨S16384x5632, .f32⟩
  | .hbm, ⟨55, _⟩ => ⟨S_, .f32⟩
  | .hbm, ⟨56, _⟩ => ⟨S16384x5632, .f32⟩
  | .hbm, ⟨57, _⟩ => ⟨S16384x5632, .f32⟩
  | .hbm, ⟨58, _⟩ => ⟨S16384x5632, .f32⟩
  | .hbm, ⟨59, _⟩ => ⟨S_, .f32⟩
  | .hbm, ⟨60, _⟩ => ⟨S16384x5632, .f32⟩
  | .hbm, ⟨61, _⟩ => ⟨S16384x5632, .f32⟩
  | .hbm, ⟨62, _⟩ => ⟨S16384x5632, .f32⟩
  | .hbm, ⟨63, _⟩ => ⟨S_, .f32⟩
  | .hbm, ⟨64, _⟩ => ⟨S16384x5632, .f32⟩
  | .hbm, ⟨65, _⟩ => ⟨S16384x5632, .f32⟩
  | .hbm, ⟨66, _⟩ => ⟨S_, .f32⟩
  | .hbm, ⟨67, _⟩ => ⟨S16384x5632, .f32⟩
  | .hbm, ⟨68, _⟩ => ⟨S16384x5632, .f32⟩
  | .hbm, ⟨69, _⟩ => ⟨S16384x5632, .f32⟩
  | .hbm, ⟨70, _⟩ => ⟨S16384x5632, .f32⟩
  | .hbm, ⟨71, _⟩ => ⟨S2816x2048x2, .bf16⟩
  | .hbm, ⟨72, _⟩ => ⟨S2816x2x2048, .bf16⟩
  | .hbm, ⟨73, _⟩ => ⟨S5632x2048, .bf16⟩
  | .hbm, ⟨74, _⟩ => ⟨S5632x2048, .f32⟩
  | .hbm, ⟨75, _⟩ => ⟨S16384x2048, .f32⟩
  | .hbm, ⟨76, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_call0_v0 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_2 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_3 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_4 : Ref sig .tc := ⟨.hbm, 63, rfl⟩
abbrev main_v50 : Ref sig .tc := ⟨.hbm, 64, rfl⟩
abbrev main_v51 : Ref sig .tc := ⟨.hbm, 65, rfl⟩
abbrev main_cst_5 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩

abbrev nD : Nat := 1
abbrev τ : Topo := Topo.v7x

variable {F : FTy → Type} [FloatOps F]
-- ==== Kernel3.lean ====
abbrev S16384x2048 : Shape := ⟨2, ![16384, 2048]⟩
abbrev S16384x256 : Shape := ⟨2, ![16384, 256]⟩
abbrev S1x2048 : Shape := ⟨2, ![1, 2048]⟩
abbrev S1024x2048 : Shape := ⟨2, ![1024, 2048]⟩
abbrev S256x2048 : Shape := ⟨2, ![256, 2048]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩
abbrev S2048x2048 : Shape := ⟨2, ![2048, 2048]⟩

abbrev nBuf : Space → Nat
  | .hbm => 7
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S1x2048, .f32⟩
  | .hbm, ⟨3, _⟩ => ⟨S1024x2048, .i32⟩
  | .hbm, ⟨4, _⟩ => ⟨S256x2048, .bf16⟩
  | .hbm, ⟨5, _⟩ => ⟨S1x2048, .f32⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S1024x2048, .i32⟩
  | .local _ .vmem, ⟨6, _⟩ => ⟨S256x2048, .bf16⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S16384x2048 : Shape := ⟨2, ![16384, 2048]⟩
abbrev S16384x256 : Shape := ⟨2, ![16384, 256]⟩
abbrev S1x2048 : Shape := ⟨2, ![1, 2048]⟩
abbrev S1024x2048 : Shape := ⟨2, ![1024, 2048]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1024x2048x2 : Shape := ⟨3, ![1024, 2048, 2]⟩
abbrev S1024x2x2048 : Shape := ⟨3, ![1024, 2, 2048]⟩
abbrev S2048x2048 : Shape := ⟨2, ![2048, 2048]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x256, .f32⟩
  | .hbm, ⟨2, _⟩ => ⟨S1x2048, .f32⟩
  | .hbm, ⟨3, _⟩ => ⟨S1024x2048, .i32⟩
  | .hbm, ⟨4, _⟩ => ⟨S256x2048, .bf16⟩
  | .hbm, ⟨5, _⟩ => ⟨S1x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S1024x2048x2, .bf16⟩
  | .hbm, ⟨22, _⟩ => ⟨S1024x2x2048, .bf16⟩
  | .hbm, ⟨23, _⟩ => ⟨S2048x2048, .bf16⟩
  | .hbm, ⟨24, _⟩ => ⟨S2048x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S256x2048, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S16384x2048, .f32⟩
  | .hbm, ⟨52, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1024x2048, .i32⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .i32⟩
  | .local _ .vmem, ⟨7, _⟩ => ⟨S512x2048, .i32⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x2048 : Shape := ⟨2, ![16384, 2048]⟩
abbrev S16384x1024 : Shape := ⟨2, ![16384, 1024]⟩
abbrev S1024x2048 : Shape := ⟨2, ![1024, 2048]⟩
abbrev S1024x2048x2 : Shape := ⟨3, ![1024, 2048, 2]⟩
abbrev S1024x2x2048 : Shape := ⟨3, ![1024, 2, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .bf16⟩
  | .hbm, ⟨3, _⟩ => ⟨S1024x2048, .i32⟩
  | .hbm, ⟨4, _⟩ => ⟨S16384x2048, .bf16⟩
  | .hbm, ⟨5, _⟩ => ⟨S16384x2048, .f32⟩
  | .hbm, ⟨6, _⟩ => ⟨S1024x2048x2, .bf16⟩
  | .hbm, ⟨7, _⟩ => ⟨S1024x2x2048, .bf16⟩
  | .hbm, ⟨8, _⟩ => ⟨S2048x2048, .bf16⟩
  | .hbm, ⟨9, _⟩ => ⟨S2048x2048, .f32⟩
  | .hbm, ⟨10, _⟩ => ⟨S16384x2048, .f32⟩
  | .hbm, ⟨11, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S1024x6144 : Shape := ⟨2, ![1024, 6144]⟩
abbrev S128x2048 : Shape := ⟨2, ![128, 2048]⟩
abbrev S128x512 : Shape := ⟨2, ![128, 512]⟩
abbrev S1x512 : Shape := ⟨2, ![1, 512]⟩
abbrev S16384x6144 : Shape := ⟨2, ![16384, 6144]⟩
abbrev S16384x512 : Shape := ⟨2, ![16384, 512]⟩
abbrev S1024x2048 : Shape := ⟨2, ![1024, 2048]⟩
abbrev S1024x1024 : Shape := ⟨2, ![1024, 1024]⟩
abbrev S1024x512 : Shape := ⟨2, ![1024, 512]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S256x512 : Shape := ⟨2, ![256, 512]⟩
abbrev S2048x1024 : Shape := ⟨2, ![2048, 1024]⟩
abbrev S256x1024 : Shape := ⟨2, ![256, 1024]⟩

abbrev nBuf : Space → Nat
  | .hbm => 8
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1024x6144, .i32⟩
  | .hbm, ⟨3, _⟩ => ⟨S128x2048, .bf16⟩
  | .hbm, ⟨4, _⟩ => ⟨S128x512, .bf16⟩
  | .hbm, ⟨5, _⟩ => ⟨S1x512, .f32⟩
  | .hbm, ⟨6, _⟩ => ⟨S16384x6144, .bf16⟩
  | .hbm, ⟨7, _⟩ => ⟨S16384x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x1024, .i32⟩
  | .local _ .vmem, ⟨4, _⟩ => ⟨S1024x1024, .i32⟩
  | .local _ .vmem, ⟨5, _⟩ => ⟨S128x2048, .bf16⟩
  | .local _ .vmem, ⟨6, _⟩ => ⟨S128x512, .bf16⟩
  | .local _ .vmem, ⟨7, _⟩ => ⟨S1x512, .f32⟩
  | .local _ .vmem, ⟨8, _⟩ => ⟨S1024x1024, .bf16⟩
  | .local _ .vmem, ⟨9, _⟩ => ⟨S1024x1024, .bf16⟩
  | .local _ .vmem, ⟨10, _⟩ => ⟨S1024x512, .f32⟩
  | .local _ .vmem, ⟨11, _⟩ => ⟨S1024x512, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S16384x2048 : Shape := ⟨2, ![16384, 2048]⟩
abbrev S1x2048 : Shape := ⟨2, ![1, 2048]⟩
abbrev S1024x6144 : Shape := ⟨2, ![1024, 6144]⟩
abbrev S128x2048 : Shape := ⟨2, ![128, 2048]⟩
abbrev S128x512 : Shape := ⟨2, ![128, 512]⟩
abbrev S1x512 : Shape := ⟨2, ![1, 512]⟩
abbrev S_ : Shape := ⟨0, ![]⟩
abbrev S16384 : Shape := ⟨1, ![16384]⟩
abbrev S16384x1 : Shape := ⟨2, ![16384, 1]⟩
abbrev S2048x128 : Shape := ⟨2, ![2048, 128]⟩
abbrev S16384x128 : Shape := ⟨2, ![16384, 128]⟩
abbrev S16384x512 : Shape := ⟨2, ![16384, 512]⟩
abbrev S1024x6144x2 : Shape := ⟨3, ![1024, 6144, 2]⟩
abbrev S1024x2x6144 : Shape := ⟨3, ![1024, 2, 6144]⟩
abbrev S2048x6144 : Shape := ⟨2, ![2048, 6144]⟩
abbrev S16384x6144 : Shape := ⟨2, ![16384, 6144]⟩

abbrev nBuf : Space → Nat
  | .hbm => 53
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S1024x6144, .i32⟩
  | .hbm, ⟨3, _⟩ => ⟨S128x2048, .bf16⟩
  | .hbm, ⟨4, _⟩ => ⟨S128x512, .bf16⟩
  | .hbm, ⟨5, _⟩ => ⟨S1x512, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S128x2048, .f32⟩
  | .hbm, ⟨22, _⟩ => ⟨S2048x128, .f32⟩
  | .hbm, ⟨23, _⟩ => ⟨S16384x128, .f32⟩
  | .hbm, ⟨24, _⟩ => ⟨S128x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S1024x6144x2, .bf16⟩
  | .hbm, ⟨29, _⟩ => ⟨S1024x2x6144, .bf16⟩
  | .hbm, ⟨30, _⟩ => ⟨S2048x6144, .bf16⟩
  | .hbm, ⟨31, _⟩ => ⟨S2048x6144, .f32⟩
  | .hbm, ⟨32, _⟩ => ⟨S16384x6144, .f32⟩
  | .hbm, ⟨33, _⟩ => ⟨S16384x6144, .bf16⟩
  | .hbm, ⟨34, _⟩ => ⟨S16384x512, .f32⟩
  | .hbm, ⟨35, _⟩ => ⟨S_, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .i1⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384x512, .f32⟩
  | .hbm, ⟨52, _⟩ => ⟨S16384x512, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v25 : Ref sig .tc := ⟨.hbm, 49, rfl⟩
abbrev main_cst_2 : Ref sig .tc := ⟨.hbm, 50, rfl⟩
abbrev main_v26 : Ref sig .tc := ⟨.hbm, 51, rfl⟩
abbrev main_v27 : Ref sig .tc := ⟨.hbm, 52, rfl⟩

abbrev nD : Nat := 1
abbrev τ : Topo := Topo.v7x

variable {F : FTy → Type} [FloatOps F]
-- ==== Proof.Tile.lean ====
/- What one grid point of the attention computes, cut into the steps of the algorithm: the queries of one head of a
   lane pair, the scores of a window, the exponentials, the weights over all 768 staged keys, the weighted sum over its
   own denominator, and the two heads' lanes put together. Each stored piece of the kernel is `pair` of two heads. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Tile

open Cert.KernelIdeal Cert.KernelIdeal.Gen Idealize.ShloMosaic Idealize.ShloMosaic.TcCoe Idealize.SL.Sem

/-- The queries of a pair's first head: scaled, the second head's lanes zero. -/
def qE (q : FVec Ideal S256x128 .bf16) : FVec Ideal S256x128 .bf16 :=
  select k0_pay2 (mulf q (broadcast S256x128 (Scalar.ofBits .bf16 0x3E00#16))) (broadcast S256x128 (Scalar.ofBits .bf16 0x0000#16))

/-- The queries of a pair's second head: scaled, the first head's lanes zero. -/
def qO (q : FVec Ideal S256x128 .bf16) : FVec Ideal S256x128 .bf16 :=
  select k0_pay2 (broadcast S256x128 (Scalar.ofBits .bf16 0x0000#16)) (mulf q (broadcast S256x128 (Scalar.ofBits .bf16 0x3E00#16)))

/-- The scores of 256 queries against 256 keys. -/
def sc (q k : FVec Ideal S256x128 .bf16) : FVec Ideal S256x256 .f32 :=
  matmul dot_S256x128_S256x128_S256x256_1_1_0_0_n_n none q k (constant S256x256 .f32 0x00000000#32)

/-- The window of the first 128 queries: keys 0 to 639. -/
def winLo (s0 s1 s2 : FVec Ideal S256x256 .f32) : FVec Ideal S128x640 .f32 :=
  concatenate S128x640 1 [⟨S128x256, extractStridedSlice S128x256 ![0, 0] s0 slices_S256x256_o0_0_S128x256⟩,
    ⟨S128x256, extractStridedSlice S128x256 ![0, 0] s1 slices_S256x256_o0_0_S128x256⟩,
    ⟨S128x128, extractStridedSlice S128x128 ![0, 0] s2 slices_S256x256_o0_0_S128x128⟩] concatenates_S128x256_S128x256_S128x128_S128x640_d1

/-- The window of the last 128 queries: keys 128 to 767. -/
def winHi (s0 s1 s2 : FVec Ideal S256x256 .f32) : FVec Ideal S128x640 .f32 :=
  concatenate S128x640 1 [⟨S128x128, extractStridedSlice S128x128 ![128, 128] s0 slices_S256x256_o128_128_S128x128⟩,
    ⟨S128x256, extractStridedSlice S128x256 ![128, 0] s1 slices_S256x256_o128_0_S128x256⟩,
    ⟨S128x256, extractStridedSlice S128x256 ![128, 0] s2 slices_S256x256_o128_0_S128x256⟩] concatenates_S128x128_S128x256_S128x256_S128x640_d1

/-- The scores with their bias. -/
def biased (s : FVec Ideal S128x640 .f32) (b : FVec Ideal S1x128x640 .f32) : FVec Ideal S128x640 .f32 :=
  addf s (shapeCast S128x640 b shapeCasts_S1x128x640_S128x640)

/-- The scores with their bias, `-∞` at the keys before the sequence's start. -/
def masked (v : IVec S128x640 1) (s : FVec Ideal S128x640 .f32) (b : FVec Ideal S1x128x640 .f32) : FVec Ideal S128x640 .f32 :=
  select v (biased s b) (broadcast S128x640 (Scalar.ofBits .f32 0xFF800000#32))

/-- The exponentials of the scores less their row's maximum. -/
def expw (x : FVec Ideal S128x640 .f32) : FVec Ideal S128x640 .f32 :=
  exp (subf x (broadcastTo S128x640 (shapeCast S128x1 (multiReduction .maximumf [1] S128 x 0xFF800000#32 reduces_S128x640_S128 (.inl rfl) rfl)
    shapeCasts_S128_S128x1) broadcasts_S128x1_S128x640))

/-- The two windows' weights over all 768 keys, zero outside the window. -/
def stack (lo hi : FVec Ideal S128x640 .f32) : FVec Ideal S256x768 .bf16 :=
  concatenate S256x768 0
    [⟨S128x768, concatenate S128x768 1 [⟨S128x640, truncf .bf16 lo bitsLt_bf16_f32⟩, ⟨S128x128, k0_pay6 (F := Ideal)⟩] concatenates_S128x640_S128x128_S128x768_d1⟩,
     ⟨S128x768, concatenate S128x768 1 [⟨S128x128, k0_pay6 (F := Ideal)⟩, ⟨S128x640, truncf .bf16 hi bitsLt_bf16_f32⟩] concatenates_S128x128_S128x640_S128x768_d1⟩]
    concatenates_S128x768_S128x768_S256x768_d0

/-- The three staged blocks of values, one under another. -/
def cat (v0 v1 v2 : FVec Ideal S256x128 .bf16) : FVec Ideal S768x128 .bf16 :=
  concatenate S768x128 0 [⟨S256x128, v0⟩, ⟨S256x128, v1⟩, ⟨S256x128, v2⟩] concatenates_S256x128_S256x128_S256x128_S768x128_d0

/-- The values of a pair's first head, ones on the second head's lanes. -/
def vE (v : FVec Ideal S768x128 .bf16) : FVec Ideal S768x128 .bf16 :=
  select k0_pay3 v (broadcast S768x128 (Scalar.ofBits .bf16 0x3F80#16))

/-- The values of a pair's second head, ones on the first head's lanes. -/
def vO (v : FVec Ideal S768x128 .bf16) : FVec Ideal S768x128 .bf16 :=
  select k0_pay3 (broadcast S768x128 (Scalar.ofBits .bf16 0x3F80#16)) v

/-- The weighted sums. -/
def wsum (e : FVec Ideal S256x768 .bf16) (v : FVec Ideal S768x128 .bf16) : FVec Ideal S256x128 .f32 :=
  matmul dot_S256x768_S768x128_S256x128_1_0_0_1_n_n none e v (constant S256x128 .f32 0x00000000#32)

/-- The weighted sums over their denominators, which lie 64 lanes away. -/
def quot (o : FVec Ideal S256x128 .f32) : FVec Ideal S256x128 .f32 :=
  divf o (dynamicRotate 1 64#32 none o rotates_S256x128_d1)

/-- A pair's stored lanes: the first head's, then the second's. -/
def pair (a b : FVec Ideal S256x128 .f32) : FVec Ideal S256x128 .bf16 :=
  truncf .bf16 (select k0_pay2 a b) bitsLt_bf16_f32

/-- One pair of heads where every key is in the sequence. -/
def pairB (q k0 k1 k2 v0 v1 v2 : FVec Ideal S256x128 .bf16) (b0 b1 : FVec Ideal S1x128x640 .f32) : FVec Ideal S256x128 .bf16 :=
  pair
    (quot (wsum (stack (expw (biased (winLo (sc (qE q) k0) (sc (qE q) k1) (sc (qE q) k2)) b0))
      (expw (biased (winHi (sc (qE q) k0) (sc (qE q) k1) (sc (qE q) k2)) b0))) (vE (cat v0 v1 v2))))
    (quot (wsum (stack (expw (biased (winLo (sc (qO q) k0) (sc (qO q) k1) (sc (qO q) k2)) b1))
      (expw (biased (winHi (sc (qO q) k0) (sc (qO q) k1) (sc (qO q) k2)) b1))) (vO (cat v0 v1 v2))))

/-- One pair of heads at the sequence's start: the keys before it masked, `i` the block's number. -/
def pairA (i : BitVec 32) (q k0 k1 k2 v0 v1 v2 : FVec Ideal S256x128 .bf16) (b0 b1 : FVec Ideal S1x128x640 .f32) : FVec Ideal S256x128 .bf16 :=
  pair
    (quot (wsum (stack (expw (masked (k0_pay4 i) (winLo (sc (qE q) k0) (sc (qE q) k1) (sc (qE q) k2)) b0))
      (expw (masked (k0_pay5 i) (winHi (sc (qE q) k0) (sc (qE q) k1) (sc (qE q) k2)) b0))) (vE (cat v0 v1 v2))))
    (quot (wsum (stack (expw (masked (k0_pay4 i) (winLo (sc (qO q) k0) (sc (qO q) k1) (sc (qO q) k2)) b1))
      (expw (masked (k0_pay5 i) (winHi (sc (qO q) k0) (sc (qO q) k1) (sc (qO q) k2)) b1))) (vO (cat v0 v1 v2))))

/-- Columns `128 p …` of a staged block. -/
def lanes (X : Vec Ideal S256x1024 .bf16) (p : Fin 8) : Vec Ideal S256x128 .bf16 :=
  View.ld X (Rect.unit (s := S256x1024) ![0, 128 * p.val] ![256, 128] (by
    have := p.isLt; intro a; fin_cases a <;> simp <;> omega))

/-- A head's bias rows. -/
def slab (B : Vec Ideal S16x128x640 .f32) (h : Fin 16) : Vec Ideal S1x128x640 .f32 :=
  View.ld B (Rect.unit (s := S16x128x640) ![h.val, 0, 0] ![1, 128, 640] (by
    have := h.isLt; intro a; fin_cases a <;> simp <;> omega))

/-- The first and the second head of a pair. -/
def hE (p : Fin 8) : Fin 16 := ⟨2 * p.val, by omega⟩
def hO (p : Fin 8) : Fin 16 := ⟨2 * p.val + 1, by omega⟩

/-- The stored block, pair by pair: where every key is in the sequence. -/
theorem outB_at (c : Dev nD) (t : Fin cfg0.N) (hc0 : ¬cond0_0 (grid0.coords t)) (hc1 : cond0_1 (grid0.coords t))
    (x0 x1 x2 x3 x4 x5 x6 : Vec Ideal S256x1024 .bf16) (x7 : Vec Ideal S16x128x640 .f32) (y : S256x1024.Idx)
    (p : Fin 8) (r : Fin 256) (l : Fin 128) (hr : (y 0).val = r.val) (hl : (y 1).val = 128 * p.val + l.val) :
    out0_B_8 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) hc0 hc1 x0 x1 x2 x3 x4 x5 x6 x7 y
      = pairB (lanes x0 p) (lanes x1 p) (lanes x2 p) (lanes x3 p) (lanes x4 p) (lanes x5 p) (lanes x6 p)
        (slab x7 (hE p)) (slab x7 (hO p)) (ix2 r l) := by
  have key : ∀ (p' : Fin 8) (x : S256x128.Idx), (y 1).val = 128 * p'.val + (x 1).val → (y 0).val = (x 0).val →
      pairB (lanes x0 p') (lanes x1 p') (lanes x2 p') (lanes x3 p') (lanes x4 p') (lanes x5 p') (lanes x6 p')
        (slab x7 (hE p')) (slab x7 (hO p')) x
      = pairB (lanes x0 p) (lanes x1 p) (lanes x2 p) (lanes x3 p) (lanes x4 p) (lanes x5 p) (lanes x6 p)
        (slab x7 (hE p)) (slab x7 (hO p)) (ix2 r l) := by
    intro p' x h1 h0
    have hx1 : (x 1).val < 128 := (x 1).isLt
    have hp : p' = p := Fin.ext (by omega)
    subst hp
    have hx : x = ix2 r l := by
      funext a; fin_cases a
      · exact Fin.ext (by simpa [ix2] using h0.symm.trans hr)
      · exact Fin.ext (by have : (x 1).val = l.val := by omega
                          simpa [ix2] using this)
    rw [hx]
  clear hr hl
  frame_out
  canon_tiles x h
  case piece0 => exact key 7 x h1 h0
  case piece1 => exact key 6 x h1 h0
  case piece2 => exact key 5 x h1 h0
  case piece3 => exact key 4 x h1 h0
  case piece4 => exact key 3 x h1 h0
  case piece5 => exact key 2 x h1 h0
  case piece6 => exact key 1 x h1 h0
  case piece7 => exact key 0 x (by simpa using h1) h0

/-- The stored block, pair by pair: at the sequence's start. -/
theorem outA_at (c : Dev nD) (t : Fin cfg0.N) (hc0 : cond0_0 (grid0.coords t)) (hc1 : ¬cond0_1 (grid0.coords t))
    (x0 x1 x2 x3 x4 x5 x6 : Vec Ideal S256x1024 .bf16) (x7 : Vec Ideal S16x128x640 .f32) (y : S256x1024.Idx)
    (p : Fin 8) (r : Fin 256) (l : Fin 128) (hr : (y 0).val = r.val) (hl : (y 1).val = 128 * p.val + l.val) :
    out0_A_8 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) hc0 hc1 x0 x1 x2 x3 x4 x5 x6 x7 y
      = pairA (BitVec.ofNat 32 (grid0.coords t 0).val) (lanes x0 p) (lanes x1 p) (lanes x2 p) (lanes x3 p) (lanes x4 p) (lanes x5 p) (lanes x6 p)
        (slab x7 (hE p)) (slab x7 (hO p)) (ix2 r l) := by
  have key : ∀ (p' : Fin 8) (x : S256x128.Idx), (y 1).val = 128 * p'.val + (x 1).val → (y 0).val = (x 0).val →
      pairA (BitVec.ofNat 32 (grid0.coords t 0).val) (lanes x0 p') (lanes x1 p') (lanes x2 p') (lanes x3 p') (lanes x4 p') (lanes x5 p') (lanes x6 p')
        (slab x7 (hE p')) (slab x7 (hO p')) x
      = pairA (BitVec.ofNat 32 (grid0.coords t 0).val) (lanes x0 p) (lanes x1 p) (lanes x2 p) (lanes x3 p) (lanes x4 p) (lanes x5 p) (lanes x6 p)
        (slab x7 (hE p)) (slab x7 (hO p)) (ix2 r l) := by
    intro p' x h1 h0
    have hx1 : (x 1).val < 128 := (x 1).isLt
    have hp : p' = p := Fin.ext (by omega)
    subst hp
    have hx : x = ix2 r l := by
      funext a; fin_cases a
      · exact Fin.ext (by simpa [ix2] using h0.symm.trans hr)
      · exact Fin.ext (by have : (x 1).val = l.val := by omega
                          simpa [ix2] using this)
    rw [hx]
  clear hr hl
  frame_out
  canon_tiles x h
  case piece0 => exact key 7 x h1 h0
  case piece1 => exact key 6 x h1 h0
  case piece2 => exact key 5 x h1 h0
  case piece3 => exact key 4 x h1 h0
  case piece4 => exact key 3 x h1 h0
  case piece5 => exact key 2 x h1 h0
  case piece6 => exact key 1 x h1 h0
  case piece7 => exact key 0 x (by simpa using h1) h0

end Cert.KernelIdeal.Tile

end
-- ==== Proof.Soft.lean ====
/- The softmax of one row over the extended reals: weights kept unnormalised over a longer run of keys, summed against
   the values and divided once by their own sum, are the normalised weights summed against the values. -/
module

public import Idealize.ShloMosaic.Lib.Pointwise

@[expose] public section

noncomputable section

namespace Cert.Soft

open Idealize.ShloMosaic

/-- A row's maximum. -/
def top {n : ℕ} (x : Fin n → EReal) : EReal := Finset.univ.fold max ⊥ x

theorem le_top' {n : ℕ} (x : Fin n → EReal) (j : Fin n) : x j ≤ top x := by
  unfold top
  exact (Finset.le_fold_max _).2 (.inr ⟨j, Finset.mem_univ _, le_rfl⟩)

theorem top_le {n : ℕ} (x : Fin n → EReal) (b : EReal) (h : ∀ j, x j ≤ b) : top x ≤ b := by
  unfold top
  exact (Finset.fold_max_le _).2 ⟨bot_le, fun j _ => h j⟩

theorem top_ne_bot {n : ℕ} (x : Fin n → EReal) (h : ∃ j, x j ≠ ⊥) : top x ≠ ⊥ := by
  obtain ⟨j, hj⟩ := h
  intro h0
  exact hj (le_bot_iff.1 (h0 ▸ le_top' x j))

theorem top_mem {n : ℕ} (x : Fin n → EReal) (h : ∃ j, x j ≠ ⊥) : ∃ j, top x = x j := by
  obtain ⟨j0, _⟩ := h
  obtain ⟨j, _, hj⟩ := Finset.exists_max_image Finset.univ x ⟨j0, Finset.mem_univ _⟩
  exact ⟨j, le_antisymm (top_le x _ fun k => hj k (Finset.mem_univ _)) (le_top' x j)⟩

theorem exp_nonneg (x : EReal) : 0 ≤ Ideal.exp x := by
  induction x with
  | bot => exact le_rfl
  | top => exact le_top
  | coe r => exact EReal.coe_nonneg.2 (Real.exp_pos r).le

theorem exp_ne_top (x : EReal) (h : x ≠ ⊤) : Ideal.exp x ≠ ⊤ := by
  induction x with
  | bot => exact EReal.zero_ne_top
  | top => exact absurd rfl h
  | coe r => exact EReal.coe_ne_top _

/-- A row's weights, unnormalised. -/
def wgt {n : ℕ} (x : Fin n → EReal) (j : Fin n) : EReal := Ideal.exp (x j - top x)

/-- The weights of a window of 640 keys placed at `o` among 768. -/
def wt (o : ℕ) (x : Fin 640 → EReal) (K : Fin 768) : EReal :=
  if h : o ≤ K.val ∧ K.val < o + 640 then wgt x ⟨K.val - o, by omega⟩ else 0

/-- The weighted sum over the sum of the weights. -/
def hout (o : ℕ) (x : Fin 640 → EReal) (v : Fin 768 → EReal) : EReal :=
  Ideal.div (∑ K, wt o x K * v K) (∑ K, wt o x K * 1)

/-- The normalised weights' sum. -/
def rout (s v : Fin 576 → EReal) : EReal := ∑ j, v j * Ideal.div (wgt s j) (∑ j', wgt s j')

theorem sum_ne_top {n : ℕ} (f : Fin n → EReal) (h : ∀ j, f j ≠ ⊤) : ∑ j, f j ≠ ⊤ := by
  classical
  refine Finset.induction_on (motive := fun s => ∑ j ∈ s, f j ≠ ⊤) Finset.univ ?_ ?_
  · simp
  · intro a s ha ih
    rw [Finset.sum_insert ha]
    exact EReal.add_ne_top (h a) ih

theorem sum_mul_const {n : ℕ} (f : Fin n → EReal) (c : EReal) (h0 : 0 ≤ c) (ht : c ≠ ⊤) :
    (∑ j, f j) * c = ∑ j, f j * c := by
  classical
  refine Finset.induction_on (motive := fun s => (∑ j ∈ s, f j) * c = ∑ j ∈ s, f j * c) Finset.univ ?_ ?_
  · simp
  · intro a s ha ih
    rw [Finset.sum_insert ha, Finset.sum_insert ha, ← ih]
    exact EReal.right_distrib_of_nonneg_of_ne_top h0 ht _ _

theorem wgt_bot {n : ℕ} (x : Fin n → EReal) (j : Fin n) (h : x j = ⊥) : wgt x j = 0 := by
  unfold wgt
  rw [h, EReal.bot_sub]
  rfl

/-- A sum over the 768 staged keys whose terms vanish off a band of 576 is the band's. -/
theorem sum_band (a : ℕ) (ha : a + 576 ≤ 768) (f : Fin 768 → EReal)
    (h : ∀ K : Fin 768, ¬(a ≤ K.val ∧ K.val < a + 576) → f K = 0) :
    ∑ K, f K = ∑ j : Fin 576, f ⟨a + j.val, by omega⟩ := by
  classical
  symm
  refine Finset.sum_of_injOn (fun j : Fin 576 => (⟨a + j.val, by omega⟩ : Fin 768)) ?_ ?_ ?_ ?_
  · intro j _ j' _ e
    have := congrArg Fin.val e
    exact Fin.ext (by simpa using this)
  · intro j _; simp
  · intro K _ hK
    refine h K fun hb => hK ⟨⟨K.val - a, by omega⟩, by simp, Fin.ext (by simp; omega)⟩
  · intro j _; rfl

/-- The row of a window of 640 keys, whose scores are those of a band of 576 keys and `-∞` elsewhere. -/
theorem hout_eq (o q : ℕ) (ho : o + 640 ≤ 768) (hq : q ≤ 64) (x : Fin 640 → EReal) (s : Fin 576 → EReal)
    (hx : ∀ j : Fin 576, x ⟨q + j.val, by omega⟩ = s j)
    (hb : ∀ c : Fin 640, ¬(q ≤ c.val ∧ c.val < q + 576) → x c = ⊥)
    (hs : ∀ j, s j ≠ ⊤) (hs' : ∃ j, s j ≠ ⊥) (V : Fin 768 → EReal) (v : Fin 576 → EReal)
    (hV : ∀ j : Fin 576, s j ≠ ⊥ → V ⟨o + q + j.val, by omega⟩ = v j) :
    hout o x V = rout s v := by
  have hxj : ∀ c : Fin 640, (∃ j, x c = s j) ∨ x c = ⊥ := by
    intro c
    by_cases hc : q ≤ c.val ∧ c.val < q + 576
    · refine .inl ⟨⟨c.val - q, by omega⟩, ?_⟩
      rw [← hx]
      exact congrArg x (Fin.ext (by simp; omega))
    · exact .inr (hb c hc)
  have htop : top x = top s := by
    refine le_antisymm (top_le _ _ fun c => ?_) (top_le _ _ fun j => ?_)
    · rcases hxj c with ⟨j, hj⟩ | h
      · rw [hj]; exact le_top' s j
      · rw [h]; exact bot_le
    · rw [← hx j]; exact le_top' x _
  have hw : ∀ j : Fin 576, wt o x ⟨o + q + j.val, by omega⟩ = wgt s j := by
    intro j
    unfold wt wgt
    rw [dif_pos (by constructor <;> simp <;> omega), htop, ← hx j]
    congr 3
    exact Fin.ext (by simp; omega)
  have hw0 : ∀ K : Fin 768, ¬(o + q ≤ K.val ∧ K.val < o + q + 576) → wt o x K = 0 := by
    intro K hK
    unfold wt
    split
    · rename_i h
      exact wgt_bot _ _ (hb _ (by simp; omega))
    · rfl
  have h1 : ∑ K, wt o x K * V K = ∑ j, wgt s j * v j := by
    rw [sum_band (o + q) (by omega) _ fun K hK => by rw [hw0 K hK, zero_mul]]
    refine Finset.sum_congr rfl fun j _ => ?_
    rw [hw j]
    by_cases hj : s j = ⊥
    · rw [wgt_bot s j hj, zero_mul, zero_mul]
    · rw [hV j hj]
  have h2 : ∑ K, wt o x K * 1 = ∑ j, wgt s j := by
    rw [sum_band (o + q) (by omega) _ fun K hK => by rw [hw0 K hK, zero_mul]]
    exact Finset.sum_congr rfl fun j _ => by rw [hw j, mul_one]
  have hm : ∀ j, wgt s j ≠ ⊤ := by
    intro j
    refine exp_ne_top _ ?_
    obtain ⟨k, hk⟩ := top_mem s hs'
    have h3 : top s ≠ ⊥ := top_ne_bot s hs'
    rw [sub_eq_add_neg]
    exact EReal.add_ne_top (hs j) (by simpa [EReal.neg_eq_top_iff] using h3)
  have hpos : 0 < ∑ j, wgt s j := by
    obtain ⟨k, hk⟩ := top_mem s hs'
    have hk1 : wgt s k = 1 := by
      have hkb : s k ≠ ⊥ := hk ▸ top_ne_bot s hs'
      unfold wgt
      rw [hk]
      generalize hsk : s k = z
      rw [hsk] at hkb
      have hkt : z ≠ ⊤ := hsk ▸ hs k
      induction z with
      | bot => exact absurd rfl hkb
      | top => exact absurd rfl hkt
      | coe r => rw [← EReal.coe_sub, sub_self]; show ((Real.exp 0 : ℝ) : EReal) = 1; simp
    calc (0 : EReal) < wgt s k := by rw [hk1]; exact one_pos
      _ ≤ _ := Finset.single_le_sum (f := wgt s) (fun j _ => exp_nonneg _) (Finset.mem_univ k)
  unfold hout rout
  rw [h1, h2]
  have hd : ∀ z : EReal, Ideal.div z (∑ j, wgt s j) = z * (∑ j, wgt s j)⁻¹ := fun z => by
    unfold Ideal.div; rw [if_neg hpos.ne']
  simp only [hd]
  rw [sum_mul_const _ _ (EReal.inv_nonneg_of_nonneg hpos.le) ?_]
  · exact Finset.sum_congr rfl fun j _ => by rw [mul_comm (wgt s j) (v j), mul_assoc]
  · have ht := sum_ne_top (wgt s) hm
    generalize (∑ j, wgt s j) = D at *
    induction D with
    | bot => simp
    | top => simp
    | coe r => rw [← EReal.coe_inv]; exact EReal.coe_ne_top _

end Cert.Soft

end
-- ==== Proof.TileRead.lean ====
/- The steps of one grid point (Tile.lean), read at an index over the extended reals. -/
module

public import proofs.«01_k».proof.Proof.Tile
public import proofs.«01_k».proof.Proof.Soft

@[expose] public section

set_option maxRecDepth 16384

noncomputable section

namespace Cert.KernelIdeal.Tile

open Cert.KernelIdeal Cert.KernelIdeal.Gen Idealize.ShloMosaic Idealize.ShloMosaic.TcCoe Idealize.SL.Sem

/-- A lane of the first head. -/
def l0 (d : Fin 64) : Fin 128 := ⟨d.val, by omega⟩
/-- A lane of the second head. -/
def l1 (d : Fin 64) : Fin 128 := ⟨64 + d.val, by omega⟩

theorem sum_lanes (f : Fin 128 → EReal) : ∑ l, f l = ∑ d, f (l0 d) + ∑ d, f (l1 d) :=
  Fin.sum_univ_add (a := 64) (b := 64) f

theorem sel_lane (l : Fin 128) (a b : EReal) :
    Scalar.select (IntOp.cmpi .slt (BitVec.ofNat 32 l.val) 64#32) a b = if l.val < 64 then a else b := by
  have hl := l.isLt
  exact if_congr (WordCmp.cmpi_slt_ofNat_eq_one_iff (w := 32) (a := l.val) (b := 64) (by omega) (by omega)) rfl rfl

/-- The word of `-∞`. -/
theorem negInf : Ideal.ofBits FTy.f32 0xFF800000#32 = ⊥ := by
  simp [Ideal.ofBits, Ideal.ieee]

/-- A query row against a key row on given lanes. -/
def dot (ln : Fin 64 → Fin 128) (q : FVec Ideal S256x128 .bf16) (k : FVec Ideal S768x128 .bf16) (r : Fin 256) (K : Fin 768) : EReal :=
  ∑ d : Fin 64, q (ix2 r (ln d)) * Ideal.ofBits .bf16 0x3E00#16 * k (ix2 K (ln d))

theorem scE_at (q k : FVec Ideal S256x128 .bf16) (r j : Fin 256) :
    sc (qE q) k (ix2 r j) = ∑ d : Fin 64, q (ix2 r (l0 d)) * Ideal.ofBits .bf16 0x3E00#16 * k (ix2 j (l0 d)) := by
  pointwise [sc, qE, k0_pay2]
  simp only [sel_lane]
  rw [sum_lanes]
  simp [l0, l1]

theorem scO_at (q k : FVec Ideal S256x128 .bf16) (r j : Fin 256) :
    sc (qO q) k (ix2 r j) = ∑ d : Fin 64, q (ix2 r (l1 d)) * Ideal.ofBits .bf16 0x3E00#16 * k (ix2 j (l1 d)) := by
  pointwise [sc, qO, k0_pay2]
  simp only [sel_lane]
  rw [sum_lanes]
  simp [l0, l1]

theorem cat_at (v0 v1 v2 : FVec Ideal S256x128 .bf16) (K : Fin 768) (l : Fin 128) :
    cat v0 v1 v2 (ix2 K l) = if h : K.val < 256 then v0 (ix2 ⟨K.val, h⟩ l)
      else if h : K.val - 256 < 256 then v1 (ix2 ⟨K.val - 256, h⟩ l) else v2 (ix2 ⟨K.val - 256 - 256, by omega⟩ l) := by
  pointwise [cat]

/-- The first window's scores are those of its keys. -/
theorem winLo_at (ln : Fin 64 → Fin 128) (q k0 k1 k2 : FVec Ideal S256x128 .bf16) (f : FVec Ideal S256x128 .bf16)
    (hf : ∀ (k : FVec Ideal S256x128 .bf16) (r j : Fin 256), sc f k (ix2 r j) = ∑ d : Fin 64, q (ix2 r (ln d)) * Ideal.ofBits .bf16 0x3E00#16 * k (ix2 j (ln d)))
    (r : Fin 128) (c : Fin 640) :
    winLo (sc f k0) (sc f k1) (sc f k2) (ix2 r c) = dot ln q (cat k0 k1 k2) ⟨0 + r.val, by omega⟩ ⟨0 + c.val, by omega⟩ := by
  have hc := c.isLt
  unfold dot
  pointwise [winLo]
  by_cases h : c.val < 256
  · rw [dif_pos h, hf]
    refine Finset.sum_congr rfl fun d _ => ?_
    rw [cat_at, dif_pos (by simpa using h)]
    try simp only [Nat.zero_add]
  · rw [dif_neg h]
    by_cases h' : c.val - 256 < 256
    · rw [dif_pos h', hf]
      refine Finset.sum_congr rfl fun d _ => ?_
      rw [cat_at, dif_neg (by simpa using h), dif_pos (by simpa using h')]
      try simp only [Nat.zero_add]
    · rw [dif_neg h', hf]
      refine Finset.sum_congr rfl fun d _ => ?_
      rw [cat_at, dif_neg (by simpa using h), dif_neg (by simpa using h')]
      try simp only [Nat.zero_add]

/-- The second window's scores are those of its keys. -/
theorem winHi_at (ln : Fin 64 → Fin 128) (q k0 k1 k2 : FVec Ideal S256x128 .bf16) (f : FVec Ideal S256x128 .bf16)
    (hf : ∀ (k : FVec Ideal S256x128 .bf16) (r j : Fin 256), sc f k (ix2 r j) = ∑ d : Fin 64, q (ix2 r (ln d)) * Ideal.ofBits .bf16 0x3E00#16 * k (ix2 j (ln d)))
    (r : Fin 128) (c : Fin 640) :
    winHi (sc f k0) (sc f k1) (sc f k2) (ix2 r c) = dot ln q (cat k0 k1 k2) ⟨128 + r.val, by omega⟩ ⟨128 + c.val, by omega⟩ := by
  have hc := c.isLt
  unfold dot
  pointwise [winHi]
  by_cases h : c.val < 128
  · rw [dif_pos h, hf]
    refine Finset.sum_congr rfl fun d _ => ?_
    rw [cat_at, dif_pos (show 128 + c.val < 256 by omega)]
  · rw [dif_neg h]
    by_cases h' : c.val - 128 < 256
    · rw [dif_pos h', hf]
      refine Finset.sum_congr rfl fun d _ => ?_
      rw [cat_at, dif_neg (show ¬ 128 + c.val < 256 by omega), dif_pos (show 128 + c.val - 256 < 256 by omega)]
      simp only [show 128 + c.val - 256 = c.val - 128 by omega]
    · rw [dif_neg h', hf]
      refine Finset.sum_congr rfl fun d _ => ?_
      rw [cat_at, dif_neg (show ¬ 128 + c.val < 256 by omega), dif_neg (show ¬ 128 + c.val - 256 < 256 by omega)]
      simp only [show 128 + c.val - 256 - 256 = c.val - 128 - 256 by omega]

theorem biased_at (s : FVec Ideal S128x640 .f32) (b : FVec Ideal S1x128x640 .f32) (r : Fin 128) (c : Fin 640) :
    biased s b (ix2 r c) = s (ix2 r c) + b (ix3 0 r c) := by
  pointwise [biased]

theorem masked_at (v : IVec S128x640 1) (s : FVec Ideal S128x640 .f32) (b : FVec Ideal S1x128x640 .f32) (r : Fin 128) (c : Fin 640) :
    masked v s b (ix2 r c) = if v (ix2 r c) = 1#1 then s (ix2 r c) + b (ix3 0 r c) else ⊥ := by
  rw [← biased_at]
  pointwise [masked]
  rw [negInf]
  rfl

/-- The first window's keys in the sequence, of block 0 and 1. -/
theorem valLo_at (t : ℕ) (ht : t < 2) (r : Fin 128) (c : Fin 640) :
    k0_pay4 (BitVec.ofNat 32 t) (ix2 r c) = 1#1 ↔ 512 ≤ 256 * t + 0 + c.val := by
  have hc := c.isLt
  pointwise [k0_pay4]
  interval_cases t
  · change IntOp.cmpi .sge (BitVec.ofNat 32 c.val) (BitVec.ofNat 32 512) = 1#1 ↔ _
    rw [WordCmp.cmpi_sge_ofNat_eq_one_iff (by omega) (by omega)]
    omega
  · change IntOp.cmpi .sge (BitVec.ofNat 32 c.val) (BitVec.ofNat 32 256) = 1#1 ↔ _
    rw [WordCmp.cmpi_sge_ofNat_eq_one_iff (by omega) (by omega)]
    omega

/-- The second window's keys in the sequence, of block 0 and 1. -/
theorem valHi_at (t : ℕ) (ht : t < 2) (r : Fin 128) (c : Fin 640) :
    k0_pay5 (BitVec.ofNat 32 t) (ix2 r c) = 1#1 ↔ 512 ≤ 256 * t + 128 + c.val := by
  have hc := c.isLt
  pointwise [k0_pay5]
  interval_cases t
  · change IntOp.cmpi .sge (BitVec.ofNat 32 c.val) (BitVec.ofNat 32 384) = 1#1 ↔ _
    rw [WordCmp.cmpi_sge_ofNat_eq_one_iff (by omega) (by omega)]
    omega
  · change IntOp.cmpi .sge (BitVec.ofNat 32 c.val) (BitVec.ofNat 32 128) = 1#1 ↔ _
    rw [WordCmp.cmpi_sge_ofNat_eq_one_iff (by omega) (by omega)]
    omega

theorem expw_at (x : FVec Ideal S128x640 .f32) (r : Fin 128) (c : Fin 640) :
    expw x (ix2 r c) = Soft.wgt (fun c' : Fin 640 => x (ix2 r c')) c := by
  unfold Soft.wgt Soft.top
  rw [← negInf]
  pointwise [expw]

theorem stackLo_at (lo hi : FVec Ideal S128x640 .f32) (r : Fin 128) (K : Fin 768) :
    stack (expw lo) (expw hi) (ix2 ⟨0 + r.val, by omega⟩ K) = Soft.wt 0 (fun c => lo (ix2 r c)) K := by
  unfold Soft.wt
  pointwise [stack, k0_pay6]
  simp [expw_at]

theorem stackHi_at (lo hi : FVec Ideal S128x640 .f32) (r : Fin 128) (K : Fin 768) :
    stack (expw lo) (expw hi) (ix2 ⟨128 + r.val, by omega⟩ K) = Soft.wt 128 (fun c => hi (ix2 r c)) K := by
  have hK := K.isLt
  unfold Soft.wt
  pointwise [stack, k0_pay6]
  by_cases h : K.val < 128
  · simp [h]
  · simp [h, expw_at]

theorem vE_at (v : FVec Ideal S768x128 .bf16) (K : Fin 768) (l : Fin 128) :
    vE v (ix2 K l) = if l.val < 64 then v (ix2 K l) else 1 := by
  pointwise [vE, k0_pay3]
  rw [sel_lane]

theorem vO_at (v : FVec Ideal S768x128 .bf16) (K : Fin 768) (l : Fin 128) :
    vO v (ix2 K l) = if l.val < 64 then 1 else v (ix2 K l) := by
  pointwise [vO, k0_pay3]
  rw [sel_lane]

theorem wsum_at (e : FVec Ideal S256x768 .bf16) (v : FVec Ideal S768x128 .bf16) (r : Fin 256) (l : Fin 128) :
    wsum e v (ix2 r l) = ∑ K : Fin 768, e (ix2 r K) * v (ix2 K l) := by
  pointwise [wsum]

theorem quot_at (o : FVec Ideal S256x128 .f32) (r : Fin 256) (l : Fin 128) :
    quot o (ix2 r l) = Ideal.div (o (ix2 r l)) (o (ix2 r ⟨(l.val + 128 - 64) % 128, by omega⟩)) := by
  pointwise [quot]

theorem quotE_at (e : FVec Ideal S256x768 .bf16) (v : FVec Ideal S768x128 .bf16) (r : Fin 256) (d : Fin 64) :
    quot (wsum e (vE v)) (ix2 r (l0 d)) = Ideal.div (∑ K : Fin 768, e (ix2 r K) * v (ix2 K (l0 d))) (∑ K : Fin 768, e (ix2 r K) * 1) := by
  have hd := d.isLt
  rw [quot_at, wsum_at, wsum_at]
  simp only [vE_at]
  simp [show (l0 d).val < 64 from d.isLt, show ¬ ((l0 d).val + 64) % 128 < 64 by simp only [l0]; omega]

theorem quotO_at (e : FVec Ideal S256x768 .bf16) (v : FVec Ideal S768x128 .bf16) (r : Fin 256) (d : Fin 64) :
    quot (wsum e (vO v)) (ix2 r (l1 d)) = Ideal.div (∑ K : Fin 768, e (ix2 r K) * v (ix2 K (l1 d))) (∑ K : Fin 768, e (ix2 r K) * 1) := by
  have hd := d.isLt
  rw [quot_at, wsum_at, wsum_at]
  simp only [vO_at]
  simp [show ¬ (l1 d).val < 64 by simp [l1], show ((l1 d).val + 64) % 128 < 64 by simp only [l1]; omega]

theorem pair_at (a b : FVec Ideal S256x128 .f32) (r : Fin 256) (l : Fin 128) :
    pair a b (ix2 r l) = if l.val < 64 then a (ix2 r l) else b (ix2 r l) := by
  pointwise [pair, k0_pay2]
  rw [sel_lane]

/-- A row's scores in the window at `o` of block `t`: query against key, plus bias, `-∞` before the sequence. -/
def row (t o : ℕ) (ho : o ≤ 128) (ln : Fin 64 → Fin 128) (q : FVec Ideal S256x128 .bf16) (k : FVec Ideal S768x128 .bf16)
    (b : FVec Ideal S1x128x640 .f32) (r : Fin 128) (c : Fin 640) : EReal :=
  if 512 ≤ 256 * t + o + c.val then
    dot ln q k ⟨o + r.val, by omega⟩ ⟨o + c.val, by omega⟩ + b (ix3 0 r c)
  else ⊥

theorem row_late {t : ℕ} (ht : 2 ≤ t) (o : ℕ) (ho : o ≤ 128) (ln : Fin 64 → Fin 128) (q : FVec Ideal S256x128 .bf16) (k : FVec Ideal S768x128 .bf16)
    (b : FVec Ideal S1x128x640 .f32) (r : Fin 128) :
    row t o ho ln q k b r = fun c => dot ln q k ⟨o + r.val, by omega⟩ ⟨o + c.val, by omega⟩ + b (ix3 0 r c) :=
  funext fun _ => if_pos (by omega)

section
variable (q k0 k1 k2 v0 v1 v2 : FVec Ideal S256x128 .bf16) (b0 b1 : FVec Ideal S1x128x640 .f32) (t : ℕ) (r : Fin 128) (d : Fin 64)

theorem pairB_loE (ht : 2 ≤ t) : pairB q k0 k1 k2 v0 v1 v2 b0 b1 (ix2 ⟨0 + r.val, by omega⟩ (l0 d))
    = Soft.hout 0 (row t 0 (by omega) l0 q (cat k0 k1 k2) b0 r) (fun K => cat v0 v1 v2 (ix2 K (l0 d))) := by
  unfold pairB Soft.hout
  rw [pair_at, if_pos (show (l0 d).val < 64 from d.isLt), quotE_at]
  simp only [stackLo_at, biased_at, winLo_at l0 q _ _ _ _ (scE_at q), row_late ht]

theorem pairB_hiE (ht : 2 ≤ t) : pairB q k0 k1 k2 v0 v1 v2 b0 b1 (ix2 ⟨128 + r.val, by omega⟩ (l0 d))
    = Soft.hout 128 (row t 128 (by omega) l0 q (cat k0 k1 k2) b0 r) (fun K => cat v0 v1 v2 (ix2 K (l0 d))) := by
  unfold pairB Soft.hout
  rw [pair_at, if_pos (show (l0 d).val < 64 from d.isLt), quotE_at]
  simp only [stackHi_at, biased_at, winHi_at l0 q _ _ _ _ (scE_at q), row_late ht]

theorem pairB_loO (ht : 2 ≤ t) : pairB q k0 k1 k2 v0 v1 v2 b0 b1 (ix2 ⟨0 + r.val, by omega⟩ (l1 d))
    = Soft.hout 0 (row t 0 (by omega) l1 q (cat k0 k1 k2) b1 r) (fun K => cat v0 v1 v2 (ix2 K (l1 d))) := by
  unfold pairB Soft.hout
  rw [pair_at, if_neg (show ¬ (l1 d).val < 64 by simp [l1]), quotO_at]
  simp only [stackLo_at, biased_at, winLo_at l1 q _ _ _ _ (scO_at q), row_late ht]

theorem pairB_hiO (ht : 2 ≤ t) : pairB q k0 k1 k2 v0 v1 v2 b0 b1 (ix2 ⟨128 + r.val, by omega⟩ (l1 d))
    = Soft.hout 128 (row t 128 (by omega) l1 q (cat k0 k1 k2) b1 r) (fun K => cat v0 v1 v2 (ix2 K (l1 d))) := by
  unfold pairB Soft.hout
  rw [pair_at, if_neg (show ¬ (l1 d).val < 64 by simp [l1]), quotO_at]
  simp only [stackHi_at, biased_at, winHi_at l1 q _ _ _ _ (scO_at q), row_late ht]

theorem pairA_loE (ht : t < 2) : pairA (BitVec.ofNat 32 t) q k0 k1 k2 v0 v1 v2 b0 b1 (ix2 ⟨0 + r.val, by omega⟩ (l0 d))
    = Soft.hout 0 (row t 0 (by omega) l0 q (cat k0 k1 k2) b0 r) (fun K => cat v0 v1 v2 (ix2 K (l0 d))) := by
  unfold pairA Soft.hout row
  rw [pair_at, if_pos (show (l0 d).val < 64 from d.isLt), quotE_at]
  simp only [stackLo_at, masked_at, winLo_at l0 q _ _ _ _ (scE_at q), valLo_at t ht]

theorem pairA_hiE (ht : t < 2) : pairA (BitVec.ofNat 32 t) q k0 k1 k2 v0 v1 v2 b0 b1 (ix2 ⟨128 + r.val, by omega⟩ (l0 d))
    = Soft.hout 128 (row t 128 (by omega) l0 q (cat k0 k1 k2) b0 r) (fun K => cat v0 v1 v2 (ix2 K (l0 d))) := by
  unfold pairA Soft.hout row
  rw [pair_at, if_pos (show (l0 d).val < 64 from d.isLt), quotE_at]
  simp only [stackHi_at, masked_at, winHi_at l0 q _ _ _ _ (scE_at q), valHi_at t ht]

theorem pairA_loO (ht : t < 2) : pairA (BitVec.ofNat 32 t) q k0 k1 k2 v0 v1 v2 b0 b1 (ix2 ⟨0 + r.val, by omega⟩ (l1 d))
    = Soft.hout 0 (row t 0 (by omega) l1 q (cat k0 k1 k2) b1 r) (fun K => cat v0 v1 v2 (ix2 K (l1 d))) := by
  unfold pairA Soft.hout row
  rw [pair_at, if_neg (show ¬ (l1 d).val < 64 by simp [l1]), quotO_at]
  simp only [stackLo_at, masked_at, winLo_at l1 q _ _ _ _ (scO_at q), valLo_at t ht]

theorem pairA_hiO (ht : t < 2) : pairA (BitVec.ofNat 32 t) q k0 k1 k2 v0 v1 v2 b0 b1 (ix2 ⟨128 + r.val, by omega⟩ (l1 d))
    = Soft.hout 128 (row t 128 (by omega) l1 q (cat k0 k1 k2) b1 r) (fun K => cat v0 v1 v2 (ix2 K (l1 d))) := by
  unfold pairA Soft.hout row
  rw [pair_at, if_neg (show ¬ (l1 d).val < 64 by simp [l1]), quotO_at]
  simp only [stackHi_at, masked_at, winHi_at l1 q _ _ _ _ (scO_at q), valHi_at t ht]

end

end Cert.KernelIdeal.Tile

end
-- ==== Proof.Blocks.lean ====
/- The blocks one grid point stages, read at an index of the arrays they are cut from. -/
module

public import proofs.«01_k».proof.Proof.TileRead

@[expose] public section

set_option maxRecDepth 16384

noncomputable section

namespace Cert.KernelIdeal.Tile

open Cert.KernelIdeal Cert.KernelIdeal.Gen Idealize.ShloMosaic Idealize.ShloMosaic.TcCoe Idealize.SL.Sem

variable (m : (ℓ : Loc nD τ sig) → Buf (Elt Ideal) ℓ) (c : Dev nD)

/-- Which block of the projections each window stages, and which the result's. -/
theorem idx : ∀ t : Fin cfg0.N, win0_0.index t = ![t.val, 0] ∧ win0_1.index t = ![t.val - 2, 1] ∧ win0_2.index t = ![t.val - 1, 1]
    ∧ win0_3.index t = ![t.val, 1] ∧ win0_4.index t = ![t.val - 2, 2] ∧ win0_5.index t = ![t.val - 1, 2] ∧ win0_6.index t = ![t.val, 2]
    ∧ win0_7.index t = ![0, 0, 0] ∧ win0_8.index t = ![t.val, 0] :=
  (by decide +kernel : ∀ t : Fin grid0.N, _)

theorem coord : ∀ t : Fin cfg0.N, (grid0.coords t 0).val = t.val := (by decide +kernel : ∀ t : Fin grid0.N, _)

theorem lt64 (t : Fin cfg0.N) : t.val < 64 := lt_of_lt_of_eq t.isLt (by decide)

theorem q_at (t : Fin cfg0.N) (p : Fin 8) (r : Fin 256) (l : Fin 128) :
    lanes (iblk m c 0 t) p (ix2 r l) = m ((c : Thread nD τ).loc main_arg0)
      (ix2 ⟨256 * t.val + r.val, by have := lt64 t; omega⟩ ⟨128 * p.val + l.val, by omega⟩) := by
  unfold lanes
  pointwise
  blk_point [iblk, V, idx t]

theorem k0_at (t : Fin cfg0.N) (p : Fin 8) (r : Fin 256) (l : Fin 128) :
    lanes (iblk m c 1 t) p (ix2 r l) = m ((c : Thread nD τ).loc main_arg0)
      (ix2 ⟨256 * (t.val - 2) + r.val, by have := lt64 t; omega⟩ ⟨1024 + 128 * p.val + l.val, by omega⟩) := by
  unfold lanes
  pointwise
  blk_point [iblk, V, idx t]

theorem k1_at (t : Fin cfg0.N) (p : Fin 8) (r : Fin 256) (l : Fin 128) :
    lanes (iblk m c 2 t) p (ix2 r l) = m ((c : Thread nD τ).loc main_arg0)
      (ix2 ⟨256 * (t.val - 1) + r.val, by have := lt64 t; omega⟩ ⟨1024 + 128 * p.val + l.val, by omega⟩) := by
  unfold lanes
  pointwise
  blk_point [iblk, V, idx t]

theorem k2_at (t : Fin cfg0.N) (p : Fin 8) (r : Fin 256) (l : Fin 128) :
    lanes (iblk m c 3 t) p (ix2 r l) = m ((c : Thread nD τ).loc main_arg0)
      (ix2 ⟨256 * t.val + r.val, by have := lt64 t; omega⟩ ⟨1024 + 128 * p.val + l.val, by omega⟩) := by
  unfold lanes
  pointwise
  blk_point [iblk, V, idx t]

theorem v0_at (t : Fin cfg0.N) (p : Fin 8) (r : Fin 256) (l : Fin 128) :
    lanes (iblk m c 4 t) p (ix2 r l) = m ((c : Thread nD τ).loc main_arg0)
      (ix2 ⟨256 * (t.val - 2) + r.val, by have := lt64 t; omega⟩ ⟨2048 + 128 * p.val + l.val, by omega⟩) := by
  unfold lanes
  pointwise
  blk_point [iblk, V, idx t]

theorem v1_at (t : Fin cfg0.N) (p : Fin 8) (r : Fin 256) (l : Fin 128) :
    lanes (iblk m c 5 t) p (ix2 r l) = m ((c : Thread nD τ).loc main_arg0)
      (ix2 ⟨256 * (t.val - 1) + r.val, by have := lt64 t; omega⟩ ⟨2048 + 128 * p.val + l.val, by omega⟩) := by
  unfold lanes
  pointwise
  blk_point [iblk, V, idx t]

theorem v2_at (t : Fin cfg0.N) (p : Fin 8) (r : Fin 256) (l : Fin 128) :
    lanes (iblk m c 6 t) p (ix2 r l) = m ((c : Thread nD τ).loc main_arg0)
      (ix2 ⟨256 * t.val + r.val, by have := lt64 t; omega⟩ ⟨2048 + 128 * p.val + l.val, by omega⟩) := by
  unfold lanes
  pointwise
  blk_point [iblk, V, idx t]

theorem bias_at (t : Fin cfg0.N) (h : Fin 16) (r : Fin 128) (l : Fin 640) :
    slab (iblk m c 7 t) h (ix3 0 r l) = V m c main_v30 (ix3 h r l) := by
  unfold slab
  pointwise
  blk_point [iblk, idx t]

/-- A staged key in the sequence is the key at its position. -/
theorem keys_at (t : Fin cfg0.N) (p : Fin 8) (K : Fin 768) (l : Fin 128) (h : 512 ≤ 256 * t.val + K.val) :
    cat (lanes (iblk m c 1 t) p) (lanes (iblk m c 2 t) p) (lanes (iblk m c 3 t) p) (ix2 K l) = m ((c : Thread nD τ).loc main_arg0)
      (ix2 ⟨256 * t.val + K.val - 512, by have := lt64 t; omega⟩ ⟨1024 + 128 * p.val + l.val, by omega⟩) := by
  have ht := lt64 t
  rw [cat_at]
  split
  · rw [k0_at]
    simp only [show 256 * (t.val - 2) + K.val = 256 * t.val + K.val - 512 by omega]
  · split
    · rw [k1_at]
      simp only [show 256 * (t.val - 1) + (K.val - 256) = 256 * t.val + K.val - 512 by omega]
    · rw [k2_at]
      simp only [show 256 * t.val + (K.val - 256 - 256) = 256 * t.val + K.val - 512 by omega]

/-- A staged value in the sequence is the value at its position. -/
theorem values_at (t : Fin cfg0.N) (p : Fin 8) (K : Fin 768) (l : Fin 128) (h : 512 ≤ 256 * t.val + K.val) :
    cat (lanes (iblk m c 4 t) p) (lanes (iblk m c 5 t) p) (lanes (iblk m c 6 t) p) (ix2 K l) = m ((c : Thread nD τ).loc main_arg0)
      (ix2 ⟨256 * t.val + K.val - 512, by have := lt64 t; omega⟩ ⟨2048 + 128 * p.val + l.val, by omega⟩) := by
  have ht := lt64 t
  rw [cat_at]
  split
  · rw [v0_at]
    simp only [show 256 * (t.val - 2) + K.val = 256 * t.val + K.val - 512 by omega]
  · split
    · rw [v1_at]
      simp only [show 256 * (t.val - 1) + (K.val - 256) = 256 * t.val + K.val - 512 by omega]
    · rw [v2_at]
      simp only [show 256 * t.val + (K.val - 256 - 256) = 256 * t.val + K.val - 512 by omega]

end Cert.KernelIdeal.Tile

end
-- ==== Proof.Bias.lean ====
/- The bias rows the host builds for the attention, read at a head, a query and a key. -/
module

public import proofs.«01_k».proof.Proof.TileRead
public import Idealize.ShloMosaic.Lib.StableHlo.Run

@[expose] public section

set_option maxRecDepth 16384

noncomputable section

namespace Cert.KernelIdeal.Tile

open Cert.KernelIdeal Cert.KernelIdeal.Gen Idealize.ShloMosaic Idealize.ShloMosaic.TcCoe Idealize.SL.Sem

/-- The chunk of each query of a tile. -/
def chunkQ : IVec S128x1 32 :=
  select
    (andi
      (cmpi .ne (signi (broadcastInDim S128x1 ![0] bcast_S128_S128x1_0 (iotaInDim S128 32 0)))
        (broadcastInDim S128x1 ![] bcast_S_S128x1 (signi (id (constantI S_ 32 64#32)))))
      (cmpi .ne
        (Host.remsi (broadcastInDim S128x1 ![0] bcast_S128_S128x1_0 (iotaInDim S128 32 0))
          (broadcastInDim S128x1 ![] bcast_S_S128x1 (id (constantI S_ 32 64#32))))
        (broadcastInDim S128x1 ![] bcast_S_S128x1 (constantI S_ 32 0#32))))
    (subi
      (Host.divsi (broadcastInDim S128x1 ![0] bcast_S128_S128x1_0 (iotaInDim S128 32 0))
        (broadcastInDim S128x1 ![] bcast_S_S128x1 (id (constantI S_ 32 64#32))))
      (broadcastInDim S128x1 ![] bcast_S_S128x1 (constantI S_ 32 1#32)))
    (Host.divsi (broadcastInDim S128x1 ![0] bcast_S128_S128x1_0 (iotaInDim S128 32 0))
      (broadcastInDim S128x1 ![] bcast_S_S128x1 (id (constantI S_ 32 64#32))))

/-- The chunk of each key of a window. -/
def chunkK : IVec S1x640 32 :=
  select
    (andi
      (cmpi .ne (signi (broadcastInDim S1x640 ![1] bcast_S640_S1x640_1 (iotaInDim S640 32 0)))
        (broadcastInDim S1x640 ![] bcast_S_S1x640 (signi (id (constantI S_ 32 64#32)))))
      (cmpi .ne
        (Host.remsi (broadcastInDim S1x640 ![1] bcast_S640_S1x640_1 (iotaInDim S640 32 0))
          (broadcastInDim S1x640 ![] bcast_S_S1x640 (id (constantI S_ 32 64#32))))
        (broadcastInDim S1x640 ![] bcast_S_S1x640 (constantI S_ 32 0#32))))
    (subi
      (Host.divsi (broadcastInDim S1x640 ![1] bcast_S640_S1x640_1 (iotaInDim S640 32 0))
        (broadcastInDim S1x640 ![] bcast_S_S1x640 (id (constantI S_ 32 64#32))))
      (broadcastInDim S1x640 ![] bcast_S_S1x640 (constantI S_ 32 1#32)))
    (Host.divsi (broadcastInDim S1x640 ![1] bcast_S640_S1x640_1 (iotaInDim S640 32 0))
      (broadcastInDim S1x640 ![] bcast_S_S1x640 (id (constantI S_ 32 64#32))))

/-- Which keys of a window lie in a query's band. -/
def inBand (kc : IVec S1x640 32) (qc : IVec S128x1 32) : IVec S16x128x640 1 :=
  broadcastInDim S16x128x640 ![0, 1, 2] bcast_S1x128x640_S16x128x640_0_1_2
    (broadcastInDim S1x128x640 ![1, 2] bcast_S128x640_S1x128x640_1_2
      (andi
        (cmpi .sge (broadcastInDim S128x640 ![0, 1] bcast_S1x640_S128x640_0_1 kc)
          (broadcastInDim S128x640 ![0, 1] bcast_S128x1_S128x640_0_1 qc))
        (cmpi .sle (broadcastInDim S128x640 ![0, 1] bcast_S1x640_S128x640_0_1 kc)
          (broadcastInDim S128x640 ![0, 1] bcast_S128x1_S128x640_0_1
            (subi (addi qc (broadcastInDim S128x1 ![] bcast_S_S128x1 (constantI S_ 32 9#32)))
              (broadcastInDim S128x1 ![] bcast_S_S128x1 (constantI S_ 32 1#32)))))))

/-- The rows of the table by distance, one shifted copy per query. -/
def rowsOf (T : FVec Ideal S1x16x513 .f32) : FVec Ideal S16x128x640 .f32 :=
  extractStridedSlice S16x128x640 ![0, 0, 0]
    (shapeCast S16x128x766
      (extractStridedSlice S16x98048 ![0, 127]
        (shapeCast S16x98176
          (broadcastInDim S1x16x128x767 ![0, 1, 2, 3] bcast_S1x16x1x767_S1x16x128x767_0_1_2_3
            (shapeCast S1x16x1x767
              (concatenate S16x767 1
                [⟨S16x384, broadcastInDim S16x384 ![0, 1] bcast_S16x1_S16x384_0_1
                  (extractStridedSlice S16x1 ![0, 512] (shapeCast S16x513 T shapeCasts_S1x16x513_S16x513) slices_S16x513_S16x1_0_512)⟩,
                 ⟨S16x383, Host.reverse [1]
                  (extractStridedSlice S16x383 ![0, 129] (shapeCast S16x513 T shapeCasts_S1x16x513_S16x513) slices_S16x513_S16x383_0_129)⟩]
                concatenates_S16x384_S16x383_S16x767_d1)
              shapeCasts_S16x767_S1x16x1x767))
          shapeCasts_S1x16x128x767_S16x98176)
        slices_S16x98176_S16x98048_0_127)
      shapeCasts_S16x98048_S16x128x766)
    slices_S16x128x766_S16x128x640_0_0_0

/-- The attention's bias: the table's rows in the band, `-∞` outside. -/
def biasOf (T : FVec Ideal S1x16x513 .f32) : FVec Ideal S16x128x640 .f32 :=
  select (inBand chunkK chunkQ) (rowsOf T)
    (broadcastInDim S16x128x640 ![] bcast_S_S16x128x640 (id (constant S_ .f32 0xFF800000#32)))

variable (m : (ℓ : Loc nD τ sig) → Buf (Elt Ideal) ℓ) (c : Dev nD)

theorem entry_bias : V m c main_v30 = biasOf (m ((c : Thread nD τ).loc main_arg1)) := by
  entry_read
  simp only [hostOps0, hostOps0_1, hostOps0_2, hostOps0_3, hostOps0_4, hostOps0_5, List.flatten_cons, List.flatten_nil, List.cons_append, List.nil_append, List.append_nil, StableHlo.TRef.nullary, StableHlo.TRef.binary, StableHlo.TRef.ternary, StableHlo.TRef.unary, StableHlo.TRef.toBuf, StableHlo.TRef.ofBuf, cast_eq]
  after_results_simp
  rfl

theorem chunkQ_at : ∀ r : Fin 128, chunkQ (ix2 r 0) = BitVec.ofNat 32 (r.val / 64) := by
  decide +kernel

theorem chunkK_at : ∀ r : Fin 640, chunkK (ix2 0 r) = BitVec.ofNat 32 (r.val / 64) := by
  decide +kernel

theorem inBand_at (kc : IVec S1x640 32) (qc : IVec S128x1 32) (h : Fin 16) (r : Fin 128) (l : Fin 640) :
    inBand kc qc (ix3 h r l)
      = IntOp.andi (IntOp.cmpi .sge (kc (ix2 0 l)) (qc (ix2 r 0)))
          (IntOp.cmpi .sle (kc (ix2 0 l)) (IntOp.subi (IntOp.addi (qc (ix2 r 0)) 9#32) 1#32)) := by
  pointwise [inBand]

theorem inBand_word : ∀ a : Fin 10, ∀ b : Fin 2,
    (IntOp.andi (IntOp.cmpi .sge (BitVec.ofNat 32 a.val) (BitVec.ofNat 32 b.val))
      (IntOp.cmpi .sle (BitVec.ofNat 32 a.val) (IntOp.subi (IntOp.addi (BitVec.ofNat 32 b.val) 9#32) 1#32)) = 1#1)
      ↔ (b.val ≤ a.val ∧ a.val < b.val + 9) := by
  decide +kernel

/-- A key is in a query's band when its chunk is one of the nine that end at the query's. -/
theorem inBand_iff (h : Fin 16) (r : Fin 128) (l : Fin 640) :
    inBand chunkK chunkQ (ix3 h r l) = 1#1 ↔ (r.val / 64 * 64 ≤ l.val ∧ l.val < r.val / 64 * 64 + 576) := by
  rw [inBand_at, chunkK_at, chunkQ_at]
  refine (inBand_word ⟨l.val / 64, by omega⟩ ⟨r.val / 64, by omega⟩).trans ?_
  dsimp only
  omega

/-- The column of the table for a query and a key of a window. -/
def column (q k : ℕ) : ℕ := if k ≤ q + 256 then 512 else 768 + q - k

theorem column_lt {q k : ℕ} : column q k < 513 := by
  unfold column; split <;> omega

theorem rows_at (T : FVec Ideal S1x16x513 .f32) (h : Fin 16) (r : Fin 128) (l : Fin 640) :
    rowsOf T (ix3 h r l) = T (ix3 0 h ⟨column r.val l.val, column_lt⟩) := by
  pointwise [rowsOf]
  have e : (127 + (r.val * 766 + l.val)) % 767 = 127 - r.val + l.val := by omega
  split
  · next hc =>
    have : column r.val l.val = 512 := by unfold column; rw [if_pos (by omega)]
    exact congrArg (fun x => T (ix3 0 h x)) (Fin.ext this.symm)
  · next hc =>
    have : column r.val l.val = 768 + r.val - l.val := by unfold column; rw [if_neg (by omega)]
    refine congrArg₂ (fun a b => T (ix3 0 a b)) (if_neg (by decide)) (Fin.ext ?_)
    refine (congrArg (fun x : Fin 383 => 129 + x.val) (if_pos (by decide))).trans ?_
    dsimp only
    rw [this]
    change 129 + (383 - ((127 + (r.val * 766 + l.val)) % 767 - 384 + 1)) = _
    omega

/-- The bias at a head, a query of a tile and a key of its window. -/
theorem biasOf_at (T : FVec Ideal S1x16x513 .f32) (h : Fin 16) (r : Fin 128) (l : Fin 640) :
    biasOf T (ix3 h r l) = if r.val / 64 * 64 ≤ l.val ∧ l.val < r.val / 64 * 64 + 576
      then T (ix3 0 h ⟨column r.val l.val, column_lt⟩) else ⊥ := by
  rw [biasOf, ← rows_at T h r l, ← negInf]
  exact if_congr (inBand_iff h r l) rfl rfl

end Cert.KernelIdeal.Tile

end
-- ==== Proof.RefBand.lean ====
/- The reference's bands: for each chunk the nine chunks of rows that end at it, rows before the first one zero. -/
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Idealize.ShloMosaic Idealize.ShloMosaic.TcCoe Idealize.SL.Sem

/-- The rows padded and cut into chunks and heads. -/
def padded (t : FVec Ideal S16384x1024 .f32) : FVec Ideal S264x64x16x64 .f32 :=
  shapeCast _ (pad S16896x1024 ![512, 0] ![0, 0] ![0, 0] t (sitofp .f32 (constantI S_ 32 0#32)) pads_S16384x1024_S16896x1024_51200_000 h_S_) shapeCasts_S16896x1024_S264x64x16x64

/-- Nine chunks side by side. -/
def band (P : FVec Ideal S264x64x16x64 .f32) : FVec Ideal S256x576x16x64 .f32 :=
  concatenate S256x576x16x64 1
    [⟨S256x64x16x64, extractStridedSlice S256x64x16x64 ![0, 0, 0, 0] P slices_S264x64x16x64_S256x64x16x64_0_0_0_0⟩,
     ⟨S256x64x16x64, extractStridedSlice S256x64x16x64 ![1, 0, 0, 0] P slices_S264x64x16x64_S256x64x16x64_1_0_0_0⟩,
     ⟨S256x64x16x64, extractStridedSlice S256x64x16x64 ![2, 0, 0, 0] P slices_S264x64x16x64_S256x64x16x64_2_0_0_0⟩,
     ⟨S256x64x16x64, extractStridedSlice S256x64x16x64 ![3, 0, 0, 0] P slices_S264x64x16x64_S256x64x16x64_3_0_0_0⟩,
     ⟨S256x64x16x64, extractStridedSlice S256x64x16x64 ![4, 0, 0, 0] P slices_S264x64x16x64_S256x64x16x64_4_0_0_0⟩,
     ⟨S256x64x16x64, extractStridedSlice S256x64x16x64 ![5, 0, 0, 0] P slices_S264x64x16x64_S256x64x16x64_5_0_0_0⟩,
     ⟨S256x64x16x64, extractStridedSlice S256x64x16x64 ![6, 0, 0, 0] P slices_S264x64x16x64_S256x64x16x64_6_0_0_0⟩,
     ⟨S256x64x16x64, extractStridedSlice S256x64x16x64 ![7, 0, 0, 0] P slices_S264x64x16x64_S256x64x16x64_7_0_0_0⟩,
     ⟨S256x64x16x64, extractStridedSlice S256x64x16x64 ![8, 0, 0, 0] P slices_S264x64x16x64_S256x64x16x64_8_0_0_0⟩]
    concatenates_S256x64x16x64_S256x64x16x64_S256x64x16x64_S256x64x16x64_S256x64x16x64_S256x64x16x64_S256x64x16x64_S256x64x16x64_S256x64x16x64_S256x576x16x64_d1

theorem band_at (P : FVec Ideal S264x64x16x64 .f32) (c : Fin 256) (k : Fin 576) (h : Fin 16) (d : Fin 64) :
    band P (ix4 c k h d) = P (ix4 ⟨k.val / 64 + c.val, by omega⟩ ⟨k.val % 64, by omega⟩ h d) := by
  pointwise [band]
  split_ifs <;> refine congrArg₂ (fun a b => P (ix4 a b h d)) (Fin.ext ?_) (Fin.ext ?_) <;> dsimp only <;> omega

theorem padded_at (t : FVec Ideal S16384x1024 .f32) (c : Fin 264) (k : Fin 64) (h : Fin 16) (d : Fin 64) :
    padded t (ix4 c k h d) = if hp : 64 * c.val + k.val < 512 then 0
      else t (ix2 ⟨64 * c.val + k.val - 512, by omega⟩ ⟨64 * h.val + d.val, by omega⟩) := by
  pointwise [padded]
  by_cases hp : 64 * c.val + k.val < 512
  · rw [dif_neg (by omega), dif_pos hp]
    change ((BitVec.toInt 0#32 : ℝ) : EReal) = 0
    norm_num
  · rw [dif_pos (by omega), dif_neg hp]
    refine congrArg₂ (fun a b => t (ix2 a b)) (Fin.ext ?_) (Fin.ext ?_) <;> dsimp only <;> omega

/-- A band's row: the row that lies so far before the chunk's end, zero before the first. -/
theorem rows_at (t : FVec Ideal S16384x1024 .f32) (c : Fin 256) (k : Fin 576) (h : Fin 16) (d : Fin 64) :
    band (padded t) (ix4 c k h d) = if hp : 64 * c.val + k.val < 512 then 0
      else t (ix2 ⟨64 * c.val + k.val - 512, by omega⟩ ⟨64 * h.val + d.val, by omega⟩) := by
  rw [band_at, padded_at]
  have e : 64 * (k.val / 64 + c.val) + k.val % 64 = 64 * c.val + k.val := by omega
  dsimp only
  by_cases hp : 64 * c.val + k.val < 512
  · rw [dif_pos (by omega), dif_pos hp]
  · rw [dif_neg (by omega), dif_neg hp]
    refine congrArg (fun a => t (ix2 a _)) (Fin.ext ?_)
    dsimp only
    omega

end Cert.ReferenceIdeal.Att

end
-- ==== Proof.RefBias.lean ====
/- The reference's bias: the table's column for a query and a key of its band. -/
module

public import proofs.«01_k».proof.Proof.Gen.ReferenceIdeal.Run
public import Idealize.ShloMosaic.Lib.Pointwise

@[expose] public section

set_option maxRecDepth 16384

noncomputable section

namespace Cert.ReferenceIdeal.Att

open Cert.ReferenceIdeal Cert.ReferenceIdeal.Gen Idealize.ShloMosaic Idealize.ShloMosaic.TcCoe Idealize.SL.Sem

/-- The clipped distance from a key to a query, as a column of the table. -/
def dist : IVec S64x576 32 :=
  addi
    (minsi (broadcastInDim S64x576 ![] bcast_S_S64x576 (id (constantI S_ 32 256#32)))
      (maxsi (broadcastInDim S64x576 ![] bcast_S_S64x576 (id (constantI S_ 32 4294967040#32)))
        (subi
          (broadcastInDim S64x576 ![0, 1] bcast_S64x1_S64x576_0_1
            (broadcastInDim S64x1 ![0] bcast_S64_S64x1_0
              (addi (iotaInDim S64 32 0) (broadcastInDim S64 ![] bcast_S_S64 (constantI S_ 32 512#32)))))
          (broadcastInDim S64x576 ![0, 1] bcast_S1x576_S64x576_0_1
            (broadcastInDim S1x576 ![1] bcast_S576_S1x576_1 (iotaInDim S576 32 0))))))
    (broadcastInDim S64x576 ![] bcast_S_S64x576 (constantI S_ 32 256#32))

/-- The columns read. -/
def cols : IVec S64x576x1 32 :=
  broadcastInDim S64x576x1 ![0, 1] bcast_S64x576_S64x576x1_0_1
    (select (cmpi .slt dist (broadcastInDim S64x576 ![] bcast_S_S64x576 (constantI S_ 32 0#32)))
      (addi dist (broadcastInDim S64x576 ![] bcast_S_S64x576 (constantI S_ 32 513#32))) dist)

/-- The bias of every head, query and key. -/
def bias (T : FVec Ideal S1x16x513 .f32) : FVec Ideal S16x64x576 .f32 :=
  Host.gather gather_S16x513_S64x576x1_S16x64x576_0_1_n_n_1_2_161 (shapeCast S16x513 T shapeCasts_S1x16x513_S16x513) cols

theorem cols_at : ∀ q : Fin 64, ∀ k : Fin 576,
    (cols (ix3 q k 0)).toInt.toNat = if k.val ≤ q.val + 256 then 512 else 768 + q.val - k.val := by
  decide +kernel

theorem gather_at (x : FVec Ideal S16x513 .f32) (i : IVec S64x576x1 32) (h : Fin 16) (q : Fin 64) (k : Fin 576) :
    Host.gather gather_S16x513_S64x576x1_S16x64x576_0_1_n_n_1_2_161 x i (ix3 h q k)
      = x (ix2 h ⟨min (i (ix3 q k 0)).toInt.toNat 512, by omega⟩) := by
  unfold Host.gather
  congr 1
  funext a
  refine Fin.ext ?_
  match a with
  | ⟨0, _⟩ =>
    show (gather_S16x513_S64x576x1_S16x64x576_0_1_n_n_1_2_161).start (ix3 h q k) i 0 + (gather_S16x513_S64x576x1_S16x64x576_0_1_n_n_1_2_161).batchCoord (ix3 h q k) 0
      + (gather_S16x513_S64x576x1_S16x64x576_0_1_n_n_1_2_161).offCoord (ix3 h q k) 0 = h.val
    rw [GatherDims.batchCoord_eq_zero _ _ _ List.not_mem_nil]
    unfold GatherDims.start
    rw [dif_neg (by decide)]
    simp only [Nat.add_zero, Nat.zero_add]
    rfl
  | ⟨1, _⟩ =>
    show (gather_S16x513_S64x576x1_S16x64x576_0_1_n_n_1_2_161).start (ix3 h q k) i 1 + (gather_S16x513_S64x576x1_S16x64x576_0_1_n_n_1_2_161).batchCoord (ix3 h q k) 1
      + (gather_S16x513_S64x576x1_S16x64x576_0_1_n_n_1_2_161).offCoord (ix3 h q k) 1 = min (i (ix3 q k 0)).toInt.toNat 512
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (gather_S16x513_S64x576x1_S16x64x576_0_1_n_n_1_2_161).startIndexMap from List.mem_singleton.mpr rfl)]
    have hsi : (gather_S16x513_S64x576x1_S16x64x576_0_1_n_n_1_2_161).siIdx (ix3 h q k) ⟨List.idxOf (1 : Fin 2) (gather_S16x513_S64x576x1_S16x64x576_0_1_n_n_1_2_161).startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl

theorem table_at (T : FVec Ideal S1x16x513 .f32) (h : Fin 16) (l : Fin 513) :
    shapeCast S16x513 T shapeCasts_S1x16x513_S16x513 (ix2 h l) = T (ix3 0 h l) := by
  pointwise []

/-- The column of the table for a query of a chunk and a key of its band. -/
def column (q k : ℕ) : ℕ := if k ≤ q + 256 then 512 else 768 + q - k

theorem column_le {q k : ℕ} : column q k ≤ 512 := by
  unfold column; split <;> omega

theorem bias_at (T : FVec Ideal S1x16x513 .f32) (h : Fin 16) (q : Fin 64) (k : Fin 576) :
    bias T (ix3 h q k) = T (ix3 0 h ⟨column q.val k.val, Nat.lt_succ_of_le column_le⟩) := by
  rw [bias, gather_at, table_at]
  refine congrArg (fun x => T (ix3 0 h x)) (Fin.ext ?_)
  dsimp only
  rw [cols_at]
  exact min_eq_left column_le

end Cert.ReferenceIdeal.Att

end
-- ==== Proof.RefTop.lean ====
/- A row's maximum as the reference takes it. -/
module

public import Idealize.ShloMosaic.Lib.Pointwise
public import proofs.«01_k».proof.Proof.Soft

@[expose] public section

noncomputable section

namespace Cert.Soft

open Idealize.ShloMosaic

/-- The reference's maximum over the last axis is the row's maximum. -/
theorem reduce_top {n0 n1 n2 n3 : ℕ} (s : FVec Ideal ⟨4, ![n0, n1, n2, n3]⟩ .f32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduce FloatOps.maximumf s (constant ⟨0, ![]⟩ .f32 0xFF800000#32) h hu (ix3 a b c)
      = top fun x : Fin n3 => s (ix4 a b c x) := by
  have e : Ideal.ofBits FTy.f32 0xFF800000#32 = ⊥ := by simp [Ideal.ofBits, Ideal.ieee]
  unfold top
  rw [← e]
  pointwise []

theorem reduce_total {n0 n1 n2 n3 : ℕ} (s : FVec Ideal ⟨4, ![n0, n1, n2, n3]⟩ .f32)
    (h : (⟨4, ![n0, n1, n2, n3]⟩ : Shape).ReducesTo [3] ⟨3, ![n0, n1, n2]⟩) (hu : 0 < (⟨0, ![]⟩ : Shape).numel)
    (a : Fin n0) (b : Fin n1) (c : Fin n2) :
    Host.reduceAdd s (constant ⟨0, ![]⟩ .f32 0x00000000#32) h hu (ix3 a b c) = ∑ x : Fin n3, s (ix4 a b c x) := by
  pointwise []

end Cert.Soft

end
-- ==== Proof.RefValue.lean ====
/- The reference's result at a row and a column: the softmax of a row of scores against a column of values. -/
module

public import proofs.«01_k».proof.Proof.RefBand
public import proofs.«01_k».proof.Proof.RefBias
public import proofs.«01_k».proof.Proof.RefTop
public import Idealize.ShloMosaic.Lib.Tactic.WordOmega

@[expose] public section

set_option maxRecDepth 16384

noncomputable section

namespace Cert.ReferenceIdeal.Att

open Cert.ReferenceIdeal Cert.ReferenceIdeal.Gen Idealize.ShloMosaic Idealize.ShloMosaic.TcCoe Idealize.SL.Sem

/-- Which keys of a band exist. -/
def valid : IVec S256x16x64x576 1 :=
  broadcastInDim S256x16x64x576 ![0, 1, 2, 3] bcast_S256x1x1x576_S256x16x64x576_0_1_2_3
    (broadcastInDim S256x1x1x576 ![0, 3] bcast_S256x576_S256x1x1x576_0_3
      (cmpi .sge
        (addi
          (broadcastInDim S256x576 ![0, 1] bcast_S256x1_S256x576_0_1
            (muli (broadcastInDim S256x1 ![0] bcast_S256_S256x1_0 (iotaInDim S256 32 0))
              (broadcastInDim S256x1 ![] bcast_S_S256x1 (constantI S_ 32 64#32))))
          (broadcastInDim S256x576 ![0, 1] bcast_S1x576_S256x576_0_1
            (broadcastInDim S1x576 ![1] bcast_S576_S1x576_1
              (subi (iotaInDim S576 32 0) (broadcastInDim S576 ![] bcast_S_S576 (constantI S_ 32 512#32))))))
        (broadcastInDim S256x576 ![] bcast_S_S256x576 (constantI S_ 32 0#32))))

/-- The scores, `-∞` where a key does not exist. -/
def scores (q : FVec Ideal S256x64x16x64 .f32) (k : FVec Ideal S256x576x16x64 .f32) (b : FVec Ideal S16x64x576 .f32) :
    FVec Ideal S256x16x64x576 .f32 :=
  select valid
    (addf
      (mulf (Host.dotGeneral dot_S256x64x16x64_S256x576x16x64_S256x16x64x576_3_3_1_1_02_02 none q k)
        (broadcastInDim S256x16x64x576 ![] bcast_S_S256x16x64x576 (constant S_ .f32 0x3E000000#32)))
      (broadcastInDim S256x16x64x576 ![0, 1, 2, 3] bcast_S1x16x64x576_S256x16x64x576_0_1_2_3
        (broadcastInDim S1x16x64x576 ![1, 2, 3] bcast_S16x64x576_S1x16x64x576_1_2_3 b)))
    (broadcastInDim S256x16x64x576 ![] bcast_S_S256x16x64x576 (id (constant S_ .f32 0xFF800000#32)))

/-- A value of each row, at every key of it. -/
def spread (x : FVec Ideal S256x16x64 .f32) : FVec Ideal S256x16x64x576 .f32 :=
  broadcastInDim S256x16x64x576 ![0, 1, 2, 3] bcast_S256x16x64x1_S256x16x64x576_0_1_2_3
    (broadcastInDim S256x16x64x1 ![0, 1, 2] bcast_S256x16x64_S256x16x64x1_0_1_2 x)

/-- Each row's maximum. -/
def tops (s : FVec Ideal S256x16x64x576 .f32) : FVec Ideal S256x16x64 .f32 :=
  Host.reduce FloatOps.maximumf s (constant S_ .f32 0xFF800000#32) reducesTo_S256x16x64x576_S256x16x64_d3 h_S_

/-- Each row's sum. -/
def totals (s : FVec Ideal S256x16x64x576 .f32) : FVec Ideal S256x16x64 .f32 :=
  Host.reduceAdd s (constant S_ .f32 0x00000000#32) reducesTo_S256x16x64x576_S256x16x64_d3 h_S_

/-- The least value, for each row. -/
def floors : FVec Ideal S256x16x64 .f32 := broadcastInDim S256x16x64 ![] bcast_S_S256x16x64 (constant S_ .f32 0xFF800000#32)

/-- The unnormalised weights. -/
def weights (s : FVec Ideal S256x16x64x576 .f32) : FVec Ideal S256x16x64x576 .f32 :=
  Host.exp (subf s (spread (maximumf floors (tops s))))

/-- The weights over their sum. -/
def normed (w : FVec Ideal S256x16x64x576 .f32) : FVec Ideal S256x16x64x576 .f32 := Host.divf w (spread (totals w))

/-- The weights against the values, back in rows and columns. -/
def gathered (v : FVec Ideal S256x576x16x64 .f32) (p : FVec Ideal S256x16x64x576 .f32) : FVec Ideal S16384x1024 .bf16 :=
  truncf .bf16 (shapeCast _ (transpose S256x64x16x64 [0, 3, 1, 2]
    (Host.dotGeneral dot_S256x576x16x64_S256x16x64x576_S256x16x64x64_1_3_3_2_02_01 none v p)
    transposes_S256x16x64x64_S256x64x16x64_0_3_1_2) shapeCasts_S256x64x16x64_S16384x1024) bitsLt_bf16_f32

/-- The queries in chunks and heads. -/
def queries (X : FVec Ideal S16384x6144 .bf16) : FVec Ideal S256x64x16x64 .f32 :=
  shapeCast _ (extf .f32 (extractStridedSlice S16384x1024 ![0, 0] X slices_S16384x6144_S16384x1024_0_0) bitsLt_bf16_f32)
    shapeCasts_S16384x1024_S256x64x16x64

/-- The keys' columns. -/
def keys (X : FVec Ideal S16384x6144 .bf16) : FVec Ideal S16384x1024 .f32 :=
  extf .f32 (extractStridedSlice S16384x1024 ![0, 1024] X slices_S16384x6144_S16384x1024_0_1024) bitsLt_bf16_f32

/-- The values' columns. -/
def values (X : FVec Ideal S16384x6144 .bf16) : FVec Ideal S16384x1024 .f32 :=
  extf .f32 (extractStridedSlice S16384x1024 ![0, 2048] X slices_S16384x6144_S16384x1024_0_2048) bitsLt_bf16_f32

/-- The reference's result. -/
def result (X : FVec Ideal S16384x6144 .bf16) (T : FVec Ideal S1x16x513 .f32) : FVec Ideal S16384x1024 .bf16 :=
  gathered (band (padded (values X))) (normed (weights (scores (queries X) (band (padded (keys X))) (bias T))))

theorem res_eq (m : (ℓ : Loc nD τ sig) → Buf (Elt Ideal) ℓ) (c : Dev nD) :
    Value.res_main_v85 m c = result (m ((c.tc : Thread nD τ).loc main_arg0)) (m ((c.tc : Thread nD τ).loc main_arg1)) := by
  unfold Value.res_main_v85 result gathered normed weights spread totals tops floors scores valid bias cols dist queries band padded keys values
  rfl

theorem queries_at (X : FVec Ideal S16384x6144 .bf16) (c : Fin 256) (q : Fin 64) (h : Fin 16) (d : Fin 64) :
    queries X (ix4 c q h d) = X (ix2 ⟨64 * c.val + q.val, by omega⟩ ⟨64 * h.val + d.val, by omega⟩) := by
  pointwise [queries]
  refine congrArg₂ (fun a b => X (ix2 a b)) (Fin.ext ?_) (Fin.ext ?_) <;> dsimp only <;> omega

theorem keys_at (X : FVec Ideal S16384x6144 .bf16) (r : Fin 16384) (l : Fin 1024) :
    keys X (ix2 r l) = X (ix2 r ⟨1024 + l.val, by omega⟩) := by
  pointwise [keys]

theorem values_at (X : FVec Ideal S16384x6144 .bf16) (r : Fin 16384) (l : Fin 1024) :
    values X (ix2 r l) = X (ix2 r ⟨2048 + l.val, by omega⟩) := by
  pointwise [values]

/-- A key exists when its row is not before the first. -/
theorem valid_iff (c : Fin 256) (j : Fin 576) :
    IntOp.cmpi .sge (IntOp.addi (IntOp.muli (BitVec.ofNat 32 c.val) 64#32) (IntOp.subi (BitVec.ofNat 32 j.val) 512#32)) 0#32 = 1#1
      ↔ 512 ≤ 64 * c.val + j.val := by
  have hc := c.isLt
  have hj := j.isLt
  unfold IntOp.muli IntOp.addi IntOp.subi
  word_omega

theorem scores_at (q : FVec Ideal S256x64x16x64 .f32) (k : FVec Ideal S256x576x16x64 .f32) (b : FVec Ideal S16x64x576 .f32)
    (c : Fin 256) (h : Fin 16) (i : Fin 64) (j : Fin 576) :
    scores q k b (ix4 c h i j) = if 512 ≤ 64 * c.val + j.val
      then (∑ d : Fin 64, q (ix4 c i h d) * k (ix4 c j h d)) * Ideal.ofBits .f32 0x3E000000#32 + b (ix3 h i j) else ⊥ := by
  have e : Ideal.ofBits FTy.f32 0xFF800000#32 = ⊥ := by simp [Ideal.ofBits, Ideal.ieee]
  pointwise [scores, valid]
  rw [← e]
  exact if_congr (valid_iff c j) rfl rfl

theorem spread_at (x : FVec Ideal S256x16x64 .f32) (c : Fin 256) (h : Fin 16) (i : Fin 64) (j : Fin 576) :
    spread x (ix4 c h i j) = x (ix3 c h i) := by
  pointwise [spread]

theorem tops_at (s : FVec Ideal S256x16x64x576 .f32) (c : Fin 256) (h : Fin 16) (i : Fin 64) :
    tops s (ix3 c h i) = Soft.top fun j => s (ix4 c h i j) :=
  Soft.reduce_top s _ _ c h i

theorem totals_at (s : FVec Ideal S256x16x64x576 .f32) (c : Fin 256) (h : Fin 16) (i : Fin 64) :
    totals s (ix3 c h i) = ∑ j, s (ix4 c h i j) :=
  Soft.reduce_total s _ _ c h i

theorem weights_read (s : FVec Ideal S256x16x64x576 .f32) (c : Fin 256) (h : Fin 16) (i : Fin 64) (j : Fin 576) :
    weights s (ix4 c h i j) = Ideal.exp (s (ix4 c h i j) - spread (maximumf floors (tops s)) (ix4 c h i j)) := rfl

theorem floors_at (k : S256x16x64.Idx) : floors k = ⊥ := by
  have e : Ideal.ofBits FTy.f32 0xFF800000#32 = ⊥ := by simp [Ideal.ofBits, Ideal.ieee]
  pointwise [floors]
  exact e

theorem maximumf_at (x y : FVec Ideal S256x16x64 .f32) (k : S256x16x64.Idx) : maximumf x y k = max (x k) (y k) := rfl

theorem weights_at (s : FVec Ideal S256x16x64x576 .f32) (c : Fin 256) (h : Fin 16) (i : Fin 64) (j : Fin 576) :
    weights s (ix4 c h i j) = Soft.wgt (fun j => s (ix4 c h i j)) j := by
  rw [weights_read, spread_at, maximumf_at, tops_at, floors_at, max_eq_right bot_le, Soft.wgt]

theorem normed_at (w : FVec Ideal S256x16x64x576 .f32) (c : Fin 256) (h : Fin 16) (i : Fin 64) (j : Fin 576) :
    normed w (ix4 c h i j) = Ideal.div (w (ix4 c h i j)) (∑ j, w (ix4 c h i j)) := by
  rw [← totals_at, ← spread_at (totals w) c h i j]
  rfl

theorem gathered_at (v : FVec Ideal S256x576x16x64 .f32) (p : FVec Ideal S256x16x64x576 .f32) (r : Fin 16384) (l : Fin 1024) :
    gathered v p (ix2 r l) = ∑ j : Fin 576, v (ix4 ⟨r.val / 64, by omega⟩ j ⟨l.val / 64, by omega⟩ ⟨l.val % 64, by omega⟩)
      * p (ix4 ⟨r.val / 64, by omega⟩ ⟨l.val / 64, by omega⟩ ⟨r.val % 64, by omega⟩ j) := by
  pointwise [gathered]

/-- A query's score against a key of its band. -/
def score (X : FVec Ideal S16384x6144 .bf16) (T : FVec Ideal S1x16x513 .f32) (r : Fin 16384) (h : Fin 16) (j : Fin 576) : EReal :=
  if hj : 512 ≤ 64 * (r.val / 64) + j.val then
    (∑ d : Fin 64, X (ix2 r ⟨64 * h.val + d.val, by omega⟩)
      * X (ix2 ⟨64 * (r.val / 64) + j.val - 512, by omega⟩ ⟨1024 + (64 * h.val + d.val), by omega⟩)) * Ideal.ofBits .f32 0x3E000000#32
      + T (ix3 0 h ⟨column (r.val % 64) j.val, Nat.lt_succ_of_le column_le⟩)
  else ⊥

/-- A key's value, zero where the key does not exist. -/
def value (X : FVec Ideal S16384x6144 .bf16) (r : Fin 16384) (l : Fin 1024) (j : Fin 576) : EReal :=
  if hj : 64 * (r.val / 64) + j.val < 512 then 0
  else X (ix2 ⟨64 * (r.val / 64) + j.val - 512, by omega⟩ ⟨2048 + l.val, by omega⟩)

theorem result_at (X : FVec Ideal S16384x6144 .bf16) (T : FVec Ideal S1x16x513 .f32) (r : Fin 16384) (l : Fin 1024) :
    result X T (ix2 r l) = Soft.rout (score X T r ⟨l.val / 64, by omega⟩) (value X r l) := by
  have hs : ∀ j : Fin 576, scores (queries X) (band (padded (keys X))) (bias T)
      (ix4 ⟨r.val / 64, by omega⟩ ⟨l.val / 64, by omega⟩ ⟨r.val % 64, by omega⟩ j) = score X T r ⟨l.val / 64, by omega⟩ j := by
    intro j
    rw [scores_at, score]
    by_cases hj : 512 ≤ 64 * (r.val / 64) + j.val
    · rw [if_pos hj, dif_pos hj, bias_at]
      refine congrArg₂ (· + ·) (congrArg (· * _) (Finset.sum_congr rfl fun d _ => ?_)) rfl
      rw [queries_at, rows_at, dif_neg (by dsimp only; omega), keys_at]
      refine congrArg (fun a => X (ix2 a _) * _) (Fin.ext ?_)
      dsimp only
      omega
    · rw [if_neg hj, dif_neg hj]
  have hv : ∀ j : Fin 576, band (padded (values X)) (ix4 ⟨r.val / 64, by omega⟩ j ⟨l.val / 64, by omega⟩ ⟨l.val % 64, by omega⟩)
      = value X r l j := by
    intro j
    rw [rows_at, value]
    by_cases hj : 64 * (r.val / 64) + j.val < 512
    · rw [dif_pos hj, dif_pos hj]
    · rw [dif_neg hj, dif_neg hj, values_at]
      refine congrArg (fun a => X (ix2 _ a)) (Fin.ext ?_)
      dsimp only
      omega
  rw [result, gathered_at]
  unfold Soft.rout
  simp only [normed_at, weights_at, hs, hv]

end Cert.ReferenceIdeal.Att

end
-- ==== Proof.Match.lean ====
/- A block's result at a row and a lane is the reference's at the row and column they are. -/
module

public import proofs.«01_k».proof.Proof.Blocks
public import proofs.«01_k».proof.Proof.Bias
public import proofs.«01_k».proof.Proof.RefValue

@[expose] public section

set_option maxRecDepth 16384

noncomputable section

namespace Cert.KernelIdeal.Tile

open Cert.KernelIdeal Cert.KernelIdeal.Gen Idealize.ShloMosaic Idealize.ShloMosaic.TcCoe Idealize.SL.Sem

/-- The queries' and keys' columns and the table are finite. -/
structure Finite (X : FVec Ideal S16384x6144 .bf16) (T : FVec Ideal S1x16x513 .f32) : Prop where
  proj : ∀ (r : Fin 16384) (l : Fin 6144), l.val < 2048 → ∃ x : ℝ, X (ix2 r l) = (x : EReal)
  table : ∀ (h : Fin 16) (l : Fin 513), ∃ x : ℝ, T (ix3 0 h l) = (x : EReal)

theorem eighth_bf16 : Ideal.ofBits FTy.bf16 0x3E00#16 = (((1 : ℝ) / 8 : ℝ) : EReal) := by
  simp [Ideal.ofBits, Ideal.ieee]
  rw [← EReal.coe_mul]
  norm_num

theorem eighth_f32 : Ideal.ofBits FTy.f32 0x3E000000#32 = (((1 : ℝ) / 8 : ℝ) : EReal) := by
  simp [Ideal.ofBits, Ideal.ieee]
  rw [← EReal.coe_mul]
  norm_num

theorem coe_sum {n : ℕ} (f : Fin n → ℝ) : ∑ d, ((f d : ℝ) : EReal) = ((∑ d, f d : ℝ) : EReal) := by
  induction n with
  | zero => simp
  | succ n ih => rw [Fin.sum_univ_castSucc, Fin.sum_univ_castSucc, ih, EReal.coe_add]

/-- The scale may be taken before the sum or after it; the sum is finite. -/
theorem scaled_sum {n : ℕ} (f g : Fin n → EReal) (hf : ∀ d, ∃ x : ℝ, f d = (x : EReal)) (hg : ∀ d, ∃ x : ℝ, g d = (x : EReal)) :
    ∃ x : ℝ, ∑ d, f d * Ideal.ofBits .bf16 0x3E00#16 * g d = (x : EReal) ∧ (∑ d, f d * g d) * Ideal.ofBits .f32 0x3E000000#32 = (x : EReal) := by
  choose a ha using hf
  choose b hb using hg
  refine ⟨∑ d, a d * (1 / 8) * b d, ?_, ?_⟩
  · simp only [ha, hb, eighth_bf16, ← EReal.coe_mul, coe_sum]
  · simp only [ha, hb, eighth_f32, ← EReal.coe_mul, coe_sum]
    rw [Finset.sum_mul]
    exact congrArg _ (Finset.sum_congr rfl fun d _ => by ring)

theorem column_eq (q k : ℕ) : column q k = ReferenceIdeal.Att.column q k := rfl

variable (m : (ℓ : Loc nD τ sig) → Buf (Elt Ideal) ℓ) (c : Dev nD)

/-- The projection the kernel reads. -/
abbrev argX : FVec Ideal S16384x6144 .bf16 := m ((c : Thread nD τ).loc main_arg0)

/-- The table the kernel reads. -/
abbrev argT : FVec Ideal S1x16x513 .f32 := m ((c : Thread nD τ).loc main_arg1)

theorem bias_row (t : Fin cfg0.N) (h : Fin 16) (r : Fin 128) (l : Fin 640) :
    slab (iblk m c 7 t) h (ix3 0 r l) = if r.val / 64 * 64 ≤ l.val ∧ l.val < r.val / 64 * 64 + 576
      then argT m c (ix3 0 h ⟨column r.val l.val, column_lt⟩) else ⊥ := by
  rw [bias_at, entry_bias, biasOf_at]

theorem match_at (hfin : Finite (argX m c) (argT m c)) (t : Fin cfg0.N) (p : Fin 8) (h : Fin 16) (ln : Fin 64 → Fin 128)
    (hln : ∀ d, 128 * p.val + (ln d).val = 64 * h.val + d.val) (o : ℕ) (ho : o ≤ 128) (ho' : o = 0 ∨ o = 128) (r : Fin 128) (d : Fin 64)
    (R : Fin 16384) (C : Fin 1024) (hR : R.val = 256 * t.val + o + r.val) (hC : C.val = 64 * h.val + d.val) :
    Soft.hout o (row t.val o ho ln (lanes (iblk m c 0 t) p) (cat (lanes (iblk m c 1 t) p) (lanes (iblk m c 2 t) p) (lanes (iblk m c 3 t) p))
        (slab (iblk m c 7 t) h) r)
      (fun K => cat (lanes (iblk m c 4 t) p) (lanes (iblk m c 5 t) p) (lanes (iblk m c 6 t) p) (ix2 K (ln d)))
      = ReferenceIdeal.Att.result (argX m c) (argT m c) (ix2 R C) := by
  have ht := lt64 t
  have hr := r.isLt
  have hq : 64 * (R.val / 64) = 256 * t.val + o + 64 * (r.val / 64) := by omega
  have hm : R.val % 64 = r.val % 64 := by omega
  have hh : (⟨C.val / 64, by omega⟩ : Fin 16) = h := Fin.ext (by dsimp only; omega)
  -- a key's score on both sides, where the key exists
  have hsc : ∀ j : Fin 576, 512 ≤ 64 * (R.val / 64) + j.val → ∃ x y : ℝ,
      dot ln (lanes (iblk m c 0 t) p) (cat (lanes (iblk m c 1 t) p) (lanes (iblk m c 2 t) p) (lanes (iblk m c 3 t) p))
        ⟨o + r.val, by omega⟩ ⟨o + (64 * (r.val / 64) + j.val), by omega⟩ = (x : EReal)
      ∧ slab (iblk m c 7 t) h (ix3 0 r ⟨64 * (r.val / 64) + j.val, by omega⟩) = (y : EReal)
      ∧ ReferenceIdeal.Att.score (argX m c) (argT m c) R h j = (x : EReal) + (y : EReal) := by
    intro j hj
    obtain ⟨y, hy⟩ := hfin.table h ⟨column (r.val % 64) j.val, column_lt⟩
    obtain ⟨x, hx1, hx2⟩ := scaled_sum
      (fun e : Fin 64 => argX m c (ix2 R ⟨64 * h.val + e.val, by omega⟩))
      (fun e : Fin 64 => argX m c (ix2 ⟨64 * (R.val / 64) + j.val - 512, by omega⟩ ⟨1024 + (64 * h.val + e.val), by omega⟩))
      (fun e => hfin.proj _ _ (by dsimp only; omega)) (fun e => hfin.proj _ _ (by dsimp only; omega))
    refine ⟨x, y, ?_, ?_, ?_⟩
    · rw [← hx1]
      unfold dot
      refine Finset.sum_congr rfl fun e _ => ?_
      rw [q_at, keys_at m c t p _ _ (by dsimp only; omega)]
      have := hln e
      refine congrArg₂ (fun a b => a * _ * b) (congrArg₂ (fun a b => argX m c (ix2 a b)) (Fin.ext ?_) (Fin.ext ?_))
        (congrArg₂ (fun a b => argX m c (ix2 a b)) (Fin.ext ?_) (Fin.ext ?_)) <;> dsimp only <;> omega
    · rw [bias_row, if_pos (by dsimp only; omega), ← hy]
      refine congrArg (fun a => argT m c (ix3 0 h a)) (Fin.ext ?_)
      dsimp only
      unfold column
      split <;> split <;> omega
    · rw [ReferenceIdeal.Att.score, dif_pos hj, ← hy, ← hx2]
      refine congrArg₂ (· + ·) rfl (congrArg (fun a => argT m c (ix3 0 h a)) (Fin.ext ?_))
      dsimp only
      rw [hm]
      rfl
  rw [ReferenceIdeal.Att.result_at, hh]
  refine Soft.hout_eq o (64 * (r.val / 64)) (by omega) (by omega) _ _ (fun j => ?_) (fun k hk => ?_) (fun j => ?_) ?_ _ _ (fun j hj => ?_)
  · unfold row
    by_cases hj : 512 ≤ 64 * (R.val / 64) + j.val
    · obtain ⟨x, y, h1, h2, h3⟩ := hsc j hj
      rw [if_pos (by dsimp only; omega), h3, ← h1, ← h2]
    · rw [if_neg (by dsimp only; omega), ReferenceIdeal.Att.score, dif_neg hj]
  · unfold row
    split
    · rw [bias_row, if_neg (by omega), EReal.add_bot]
    · rfl
  · by_cases hj : 512 ≤ 64 * (R.val / 64) + j.val
    · obtain ⟨x, y, -, -, h3⟩ := hsc j hj
      rw [h3, ← EReal.coe_add]
      exact EReal.coe_ne_top _
    · rw [ReferenceIdeal.Att.score, dif_neg hj]
      exact bot_ne_top
  · obtain ⟨x, y, -, -, h3⟩ := hsc ⟨512 + R.val % 64, by omega⟩ (by dsimp only; omega)
    refine ⟨⟨512 + R.val % 64, by omega⟩, ?_⟩
    rw [h3, ← EReal.coe_add]
    exact EReal.coe_ne_bot _
  · have hj' : 512 ≤ 64 * (R.val / 64) + j.val := by
      by_contra hj'
      exact hj (by rw [ReferenceIdeal.Att.score, dif_neg hj'])
    rw [values_at m c t p _ _ (by dsimp only; omega), ReferenceIdeal.Att.value, dif_neg (by omega)]
    have := hln d
    refine congrArg₂ (fun a b => argX m c (ix2 a b)) (Fin.ext ?_) (Fin.ext ?_) <;> dsimp only <;> omega

end Cert.KernelIdeal.Tile

end
-- ==== Proof.Bridge.lean ====
/- The array the kernel leaves is the reference's result. -/
module

public import proofs.«01_k».proof.Proof.Match
public import proofs.«01_k».proof.Proof.Gen.KernelIdeal.Value

@[expose] public section

set_option maxRecDepth 16384

noncomputable section

namespace Cert.KernelIdeal.Tile

open Cert.KernelIdeal Cert.KernelIdeal.Gen Idealize.ShloMosaic Idealize.ShloMosaic.TcCoe Idealize.SL.Sem

variable (m : (ℓ : Loc nD τ sig) → Buf (Elt Ideal) ℓ) (c : Dev nD)

/-- The lane of a head's column within the head's pair. -/
theorem lane_cases (l : Fin 128) : (∃ d : Fin 64, l = l0 d) ∨ ∃ d : Fin 64, l = l1 d := by
  by_cases h : l.val < 64
  · exact .inl ⟨⟨l.val, h⟩, Fin.ext rfl⟩
  · exact .inr ⟨⟨l.val - 64, by omega⟩, Fin.ext (by change l.val = 64 + (l.val - 64); omega)⟩

theorem row_cases (r : Fin 256) : (∃ a : Fin 128, r = ⟨0 + a.val, by omega⟩) ∨ ∃ a : Fin 128, r = ⟨128 + a.val, by omega⟩ := by
  by_cases h : r.val < 128
  · exact .inl ⟨⟨r.val, h⟩, Fin.ext (by dsimp only; omega)⟩
  · exact .inr ⟨⟨r.val - 128, by omega⟩, Fin.ext (by dsimp only; omega)⟩

theorem lanes_even (p : Fin 8) (d : Fin 64) : 128 * p.val + (l0 d).val = 64 * (hE p).val + d.val := by
  change 128 * p.val + d.val = 64 * (2 * p.val) + d.val; omega

theorem lanes_odd (p : Fin 8) (d : Fin 64) : 128 * p.val + (l1 d).val = 64 * (hO p).val + d.val := by
  change 128 * p.val + (64 + d.val) = 64 * (2 * p.val + 1) + d.val; omega

theorem late_at (hfin : Finite (argX m c) (argT m c)) (t : Fin cfg0.N) (ht : 2 ≤ t.val) (p : Fin 8) (r : Fin 256) (l : Fin 128)
    (R : Fin 16384) (C : Fin 1024) (hR : R.val = 256 * t.val + r.val) (hC : C.val = 128 * p.val + l.val) :
    pairB (lanes (iblk m c 0 t) p) (lanes (iblk m c 1 t) p) (lanes (iblk m c 2 t) p) (lanes (iblk m c 3 t) p) (lanes (iblk m c 4 t) p)
        (lanes (iblk m c 5 t) p) (lanes (iblk m c 6 t) p) (slab (iblk m c 7 t) (hE p)) (slab (iblk m c 7 t) (hO p)) (ix2 r l)
      = ReferenceIdeal.Att.result (argX m c) (argT m c) (ix2 R C) := by
  obtain ⟨a, rfl⟩ | ⟨a, rfl⟩ := row_cases r <;> obtain ⟨d, rfl⟩ | ⟨d, rfl⟩ := lane_cases l
  · exact (pairB_loE _ _ _ _ _ _ _ _ _ _ _ _ ht).trans
      (match_at m c hfin t p (hE p) l0 (lanes_even p) 0 _ (.inl rfl) a d R C (by dsimp only at hR; omega) (hC.trans (lanes_even p d)))
  · exact (pairB_loO _ _ _ _ _ _ _ _ _ _ _ _ ht).trans
      (match_at m c hfin t p (hO p) l1 (lanes_odd p) 0 _ (.inl rfl) a d R C (by dsimp only at hR; omega) (hC.trans (lanes_odd p d)))
  · exact (pairB_hiE _ _ _ _ _ _ _ _ _ _ _ _ ht).trans
      (match_at m c hfin t p (hE p) l0 (lanes_even p) 128 _ (.inr rfl) a d R C (by dsimp only at hR; omega) (hC.trans (lanes_even p d)))
  · exact (pairB_hiO _ _ _ _ _ _ _ _ _ _ _ _ ht).trans
      (match_at m c hfin t p (hO p) l1 (lanes_odd p) 128 _ (.inr rfl) a d R C (by dsimp only at hR; omega) (hC.trans (lanes_odd p d)))

theorem early_at (hfin : Finite (argX m c) (argT m c)) (t : Fin cfg0.N) (ht : t.val < 2) (p : Fin 8) (r : Fin 256) (l : Fin 128)
    (R : Fin 16384) (C : Fin 1024) (hR : R.val = 256 * t.val + r.val) (hC : C.val = 128 * p.val + l.val) :
    pairA (BitVec.ofNat 32 t.val) (lanes (iblk m c 0 t) p) (lanes (iblk m c 1 t) p) (lanes (iblk m c 2 t) p) (lanes (iblk m c 3 t) p) (lanes (iblk m c 4 t) p)
        (lanes (iblk m c 5 t) p) (lanes (iblk m c 6 t) p) (slab (iblk m c 7 t) (hE p)) (slab (iblk m c 7 t) (hO p)) (ix2 r l)
      = ReferenceIdeal.Att.result (argX m c) (argT m c) (ix2 R C) := by
  obtain ⟨a, rfl⟩ | ⟨a, rfl⟩ := row_cases r <;> obtain ⟨d, rfl⟩ | ⟨d, rfl⟩ := lane_cases l
  · exact (pairA_loE _ _ _ _ _ _ _ _ _ _ _ _ ht).trans
      (match_at m c hfin t p (hE p) l0 (lanes_even p) 0 _ (.inl rfl) a d R C (by dsimp only at hR; omega) (hC.trans (lanes_even p d)))
  · exact (pairA_loO _ _ _ _ _ _ _ _ _ _ _ _ ht).trans
      (match_at m c hfin t p (hO p) l1 (lanes_odd p) 0 _ (.inl rfl) a d R C (by dsimp only at hR; omega) (hC.trans (lanes_odd p d)))
  · exact (pairA_hiE _ _ _ _ _ _ _ _ _ _ _ _ ht).trans
      (match_at m c hfin t p (hE p) l0 (lanes_even p) 128 _ (.inr rfl) a d R C (by dsimp only at hR; omega) (hC.trans (lanes_even p d)))
  · exact (pairA_hiO _ _ _ _ _ _ _ _ _ _ _ _ ht).trans
      (match_at m c hfin t p (hO p) l1 (lanes_odd p) 128 _ (.inr rfl) a d R C (by dsimp only at hR; omega) (hC.trans (lanes_odd p d)))

theorem out_eq (hfin : Finite (argX m c) (argT m c)) :
    (dats m 0 c).arrAt 8 cfg0.N = ReferenceIdeal.Att.result (argX m c) (argT m c) := by
  refine (dats m 0 c).arrAt_eq_of_covers 8 _ (by decide +kernel) fun t hf y => ?_
  blk_simp
  rw [after0_8]
  have ht := lt64 t
  have hy0 : (y 0).val < 256 := (y 0).isLt
  have hy1 : (y 1).val < 1024 := (y 1).isLt
  have he : (win0_8.blk t).view.emb y = ix2 ⟨256 * t.val + (y 0).val, by omega⟩ ⟨(y 1).val, hy1⟩ := by
    funext a
    refine Fin.ext ?_
    match a with
    | ⟨0, _⟩ =>
      blk_point [idx t]
      exact congrArg (· + (y 0).val) (Nat.mul_comm t.val 256)
    | ⟨1, _⟩ =>
      blk_point [idx t]
      rfl
  by_cases h0 : t.val < 2
  · rw [outsAt0_A m c t h0 (by omega), outA_at c t _ _ _ _ _ _ _ _ _ _ y ⟨(y 1).val / 128, by omega⟩ ⟨(y 0).val, hy0⟩ ⟨(y 1).val % 128, by omega⟩ rfl
      (by dsimp only; omega), coord]
    refine (early_at m c hfin t h0 ⟨(y 1).val / 128, by omega⟩ ⟨(y 0).val, hy0⟩ ⟨(y 1).val % 128, by omega⟩ ⟨256 * t.val + (y 0).val, by omega⟩ ⟨(y 1).val, hy1⟩ rfl (by dsimp only; omega)).trans ?_
    exact congrArg _ he.symm
  · rw [outsAt0_B m c t h0 (by omega), outB_at c t _ _ _ _ _ _ _ _ _ _ y ⟨(y 1).val / 128, by omega⟩ ⟨(y 0).val, hy0⟩ ⟨(y 1).val % 128, by omega⟩ rfl
      (by dsimp only; omega)]
    refine (late_at m c hfin t (by omega) ⟨(y 1).val / 128, by omega⟩ ⟨(y 0).val, hy0⟩ ⟨(y 1).val % 128, by omega⟩ ⟨256 * t.val + (y 0).val, by omega⟩ ⟨(y 1).val, hy1⟩ rfl (by dsimp only; omega)).trans ?_
    exact congrArg _ he.symm

end Cert.KernelIdeal.Tile

end
-- ==== Proof.Rows.lean ====
/- Arrays written and read a block of rows at a time: what a load of rows reads of the stores before it. -/
module

public import Idealize.ShloMosaic.Lib.Pipeline.FrameBody
public import Idealize.ShloMosaic.Lib.Pointwise
public import Idealize.ShloMosaic.Lib.Pipeline.ValueKit

@[expose] public section

noncomputable section

namespace Cert.Rows

open Idealize.ShloMosaic Idealize.ShloMosaic.TcCoe

variable {M N k : ℕ} {Val : EltTy → Type} {e : EltTy}

/-- An index of a matrix from its two coordinates. -/
theorem eta (y : (⟨2, ![M, N]⟩ : Shape).Idx) : y = ix2 (y 0) (y 1) := by
  funext a
  fin_cases a <;> rfl

/-- Two matrices with equal entries are equal. -/
theorem ext_rows {α : Type} {f g : (⟨2, ![M, N]⟩ : Shape).Idx → α} (h : ∀ r c, f (ix2 r c) = g (ix2 r c)) : f = g := by
  funext y
  rw [eta y]
  exact h _ _

theorem inb_row {o : ℕ} (inb : ∀ a, (![o, 0] : Fin 2 → ℕ) a + (![k, N] : Fin 2 → ℕ) a ≤ (⟨2, ![M, N]⟩ : Shape).size a) (r : Fin k) : o + r.val < M := by
  have h : o + k ≤ M := inb 0
  omega

/-- Where a block of rows lies in its array. -/
theorem idx_row {o : ℕ} (inb : ∀ a, (![o, 0] : Fin 2 → ℕ) a + (![k, N] : Fin 2 → ℕ) a ≤ (⟨2, ![M, N]⟩ : Shape).size a) (r : Fin k) (c : Fin N) :
    (Rect.unit (s := (⟨2, ![M, N]⟩ : Shape)) ![o, 0] ![k, N] inb).emb (ix2 r c) = ix2 ⟨o + r.val, inb_row inb r⟩ c := by
  funext a
  refine Fin.ext ?_
  fin_cases a
  · show o + 1 * r.val = o + r.val; omega
  · show 0 + 1 * c.val = c.val; omega

/-- A load of rows reads the array's rows. -/
theorem ld_row (X : (⟨2, ![M, N]⟩ : Shape).Idx → Val e) {o : ℕ}
    (inb : ∀ a, (![o, 0] : Fin 2 → ℕ) a + (![k, N] : Fin 2 → ℕ) a ≤ (⟨2, ![M, N]⟩ : Shape).size a) (r : Fin k) (c : Fin N) :
    View.ld X (Rect.unit (s := (⟨2, ![M, N]⟩ : Shape)) ![o, 0] ![k, N] inb) (ix2 r c) = X (ix2 ⟨o + r.val, inb_row inb r⟩ c) :=
  congrArg X (idx_row inb r c)

/-- A load of the whole array reads the array. -/
theorem ld_all (X : (⟨2, ![M, N]⟩ : Shape).Idx → Val e)
    (inb : ∀ a, (![0, 0] : Fin 2 → ℕ) a + (![M, N] : Fin 2 → ℕ) a ≤ (⟨2, ![M, N]⟩ : Shape).size a) :
    View.ld X (Rect.unit (s := (⟨2, ![M, N]⟩ : Shape)) ![0, 0] ![M, N] inb) = X :=
  ext_rows fun r c => (ld_row X inb r c).trans (congrArg (fun q => X (ix2 q c)) (Fin.ext (Nat.zero_add _)))

variable [∀ e, Nonempty (Val e)]

/-- A load of rows after some stores reads what they left in those rows. -/
theorem readCov_row {sig : RefSig} {κ : Kind} {sp : Space} (v : View sig κ sp (⟨2, ![M, N]⟩ : Shape) e)
    (L : List (View.Piece Val (⟨2, ![M, N]⟩ : Shape) e)) {o : ℕ}
    (inb : ∀ a, (![o, 0] : Fin 2 → ℕ) a + (![k, N] : Fin 2 → ℕ) a ≤ (⟨2, ![M, N]⟩ : Shape).size a) (r : Fin k) (c : Fin N) :
    v.readCov L (Rect.unit (s := (⟨2, ![M, N]⟩ : Shape)) ![o, 0] ![k, N] inb).toLoadRect (ix2 r c) = View.canon L (ix2 ⟨o + r.val, inb_row inb r⟩ c) := by
  rw [View.readCov_eq_canon']
  exact congrArg (View.canon L) (idx_row inb r c)

/-- In the rows of the last store its payload stands. -/
theorem canon_row {o : ℕ} (inb : ∀ a, (![o, 0] : Fin 2 → ℕ) a + (![k, N] : Fin 2 → ℕ) a ≤ (⟨2, ![M, N]⟩ : Shape).size a)
    (w : (⟨2, ![k, N]⟩ : Shape).Idx → Val e) (L : List (View.Piece Val (⟨2, ![M, N]⟩ : Shape) e)) (s : Fin M) (c : Fin N) (r : Fin k) (h : s.val = o + r.val) :
    View.canon ((⟨Rect.unit (s := (⟨2, ![M, N]⟩ : Shape)) ![o, 0] ![k, N] inb, w⟩ : View.Piece Val (⟨2, ![M, N]⟩ : Shape) e) :: L) (ix2 s c) = w (ix2 r c) := by
  have hs : s = ⟨o + r.val, inb_row inb r⟩ := Fin.ext h
  rw [hs, ← idx_row inb r c]
  exact View.canon_cons_emb (Rect.unit (s := (⟨2, ![M, N]⟩ : Shape)) ![o, 0] ![k, N] inb) w L (ix2 r c)

/-- A store of the whole array stands. -/
theorem canon_all (inb : ∀ a, (![0, 0] : Fin 2 → ℕ) a + (![M, N] : Fin 2 → ℕ) a ≤ (⟨2, ![M, N]⟩ : Shape).size a)
    (w : (⟨2, ![M, N]⟩ : Shape).Idx → Val e) (L : List (View.Piece Val (⟨2, ![M, N]⟩ : Shape) e)) :
    View.canon ((⟨Rect.unit (s := (⟨2, ![M, N]⟩ : Shape)) ![0, 0] ![M, N] inb, w⟩ : View.Piece Val (⟨2, ![M, N]⟩ : Shape) e) :: L) = w :=
  ext_rows fun r c => canon_row inb w L r c r (Nat.zero_add _).symm

/-- Outside the rows of the last store the earlier stores stand. -/
theorem canon_off {o : ℕ} (inb : ∀ a, (![o, 0] : Fin 2 → ℕ) a + (![k, N] : Fin 2 → ℕ) a ≤ (⟨2, ![M, N]⟩ : Shape).size a)
    (w : (⟨2, ![k, N]⟩ : Shape).Idx → Val e) (L : List (View.Piece Val (⟨2, ![M, N]⟩ : Shape) e)) (s : Fin M) (c : Fin N) (h : s.val < o ∨ o + k ≤ s.val) :
    View.canon ((⟨Rect.unit (s := (⟨2, ![M, N]⟩ : Shape)) ![o, 0] ![k, N] inb, w⟩ : View.Piece Val (⟨2, ![M, N]⟩ : Shape) e) :: L) (ix2 s c) = View.canon L (ix2 s c) := by
  refine View.canon_cons_of_not_mem _ L fun hm => ?_
  have h0 : ∀ a, (![o, 0] : Fin 2 → ℕ) a ≤ ((ix2 s c : (⟨2, ![M, N]⟩ : Shape).Idx) a).val ∧ ((ix2 s c : (⟨2, ![M, N]⟩ : Shape).Idx) a).val < (![o, 0] : Fin 2 → ℕ) a + (![k, N] : Fin 2 → ℕ) a :=
    (Rect.mem_set_unit (inb := inb)).mp hm
  have h1 : o ≤ s.val ∧ s.val < o + k := h0 0
  omega

/-- Two stores of rows that between them cover row `s`: there stands whatever both payloads agree with. -/
theorem canon_two {k' o o' : ℕ} (inb : ∀ a, (![o, 0] : Fin 2 → ℕ) a + (![k, N] : Fin 2 → ℕ) a ≤ (⟨2, ![M, N]⟩ : Shape).size a)
    (inb' : ∀ a, (![o', 0] : Fin 2 → ℕ) a + (![k', N] : Fin 2 → ℕ) a ≤ (⟨2, ![M, N]⟩ : Shape).size a)
    (w : (⟨2, ![k, N]⟩ : Shape).Idx → Val e) (w' : (⟨2, ![k', N]⟩ : Shape).Idx → Val e) (L : List (View.Piece Val (⟨2, ![M, N]⟩ : Shape) e))
    (U : Fin M → Fin N → Val e) (s : Fin M) (c : Fin N) (cov : (o ≤ s.val ∧ s.val < o + k) ∨ (o' ≤ s.val ∧ s.val < o' + k'))
    (hw : ∀ r, w (ix2 r c) = U ⟨o + r.val, inb_row inb r⟩ c) (hw' : ∀ r, w' (ix2 r c) = U ⟨o' + r.val, inb_row inb' r⟩ c) :
    View.canon ((⟨Rect.unit (s := (⟨2, ![M, N]⟩ : Shape)) ![o, 0] ![k, N] inb, w⟩ : View.Piece Val (⟨2, ![M, N]⟩ : Shape) e)
      :: (⟨Rect.unit (s := (⟨2, ![M, N]⟩ : Shape)) ![o', 0] ![k', N] inb', w'⟩ : View.Piece Val (⟨2, ![M, N]⟩ : Shape) e) :: L) (ix2 s c) = U s c := by
  by_cases h : o ≤ s.val ∧ s.val < o + k
  · have e1 : s.val = o + (s.val - o) := by omega
    refine (canon_row inb w _ s c ⟨s.val - o, by omega⟩ e1).trans ((hw _).trans (congrArg (fun q => U q c) (Fin.ext e1.symm)))
  · rcases cov with h' | h'
    · exact absurd h' h
    · have e1 : s.val = o' + (s.val - o') := by omega
      rw [canon_off inb w _ s c (by omega)]
      refine (canon_row inb' w' _ s c ⟨s.val - o', by omega⟩ e1).trans ((hw' _).trans (congrArg (fun q => U q c) (Fin.ext e1.symm)))

end Cert.Rows

end
-- ==== Proof.Words.lean ====
/- Pairs of sixteen-bit rows packed into words: what unpacking them reads, in the kernel and on the host. -/
module

public import Idealize.ShloMosaic.Lib.Pointwise
public import Idealize.ShloMosaic.Lib.BitcastPair
public import Idealize.ShloMosaic.Lib.BitcastConvert

@[expose] public section

noncomputable section

namespace Cert.Words

open Idealize.ShloMosaic Idealize.ShloMosaic.TcCoe

/-- The number in half `q` of a word: the low half is 0, the high half is 1. -/
def half (v : BitVec 32) (q : ℕ) : EReal := Ideal.ofBits FTy.bf16 (v.extractLsb' (16 * q) 16)

variable {a b n : ℕ}

theorem lt_half (h : b = 2 * a) (k : Fin b) : k.val / 2 < a := by omega

/-- A matrix of packed rows, read as twice as many rows: row `k` is half `k % 2` of row `k / 2`. -/
def rows (h : b = 2 * a) (w : (⟨2, ![a, n]⟩ : Shape).Idx → BitVec 32) (k : Fin b) (x : Fin n) : EReal :=
  half (w (ix2 ⟨k.val / 2, lt_half h k⟩ x)) (k.val % 2)

/-- Words reread as sixteen-bit rows. -/
theorem bitcast_at (h : b = 2 * a) (w : (⟨2, ![a, n]⟩ : Shape).Idx → BitVec 32) (hb : (⟨2, ![a, n]⟩ : Shape).Bitcasts 32 ⟨2, ![b, n]⟩ 16) (k : Fin b) (x : Fin n) :
    Ideal.ofBits FTy.bf16 (bitcast ⟨2, ![b, n]⟩ 16 w hb (ix2 k x)) = rows h w k x := by
  rw [bitcast_32_16]
  unfold rows half
  refine congrArg (fun i => Ideal.ofBits FTy.bf16 ((w i).extractLsb' (16 * (k.val % 2)) 16)) ?_
  funext c
  match c with
  | ⟨0, _⟩ => exact Fin.ext (hb.srcIdx_row _ _ _ ⟨0, Nat.zero_lt_two⟩ rfl)
  | ⟨1, _⟩ => exact Fin.ext (hb.srcIdx_other _ _ _ ⟨1, Nat.one_lt_two⟩ (by show ¬ 1 + 2 = 2; omega))

/-- Words split into pairs on the host. -/
theorem narrow_at (w : (⟨2, ![a, n]⟩ : Shape).Idx → BitVec 32) (hs : (⟨2, ![a, n]⟩ : Shape).SplitsWords 32 ⟨3, ![a, n, 2]⟩ 16) (p : Fin a) (x : Fin n) (l : Fin 2) :
    Ideal.ofBits FTy.bf16 (Host.bitcastConvertNarrow ⟨3, ![a, n, 2]⟩ 16 w hs (ix3 p x l)) = half (w (ix2 p x)) l.val := by
  rw [Host.bitcastConvertNarrow_apply]
  unfold half
  have e1 : hs.drop (ix3 p x l) = ix2 p x := by
    funext c
    match c with
    | ⟨0, _⟩ => rfl
    | ⟨1, _⟩ => rfl
  have e2 : ((ix3 p x l : (⟨3, ![a, n, 2]⟩ : Shape).Idx) hs.axis).val * 16 = 16 * l.val := Nat.mul_comm _ _
  rw [e1, e2]

end Cert.Words

end
-- ==== Proof.FfnPay.lean ====
/- The feed-forward call's arithmetic, entry by entry, on any blocks. -/
module

public import proofs.«01_k».proof.Proof.Gen.Kernel2Ideal.Skeleton
public import proofs.«01_k».proof.Proof.Rows
public import proofs.«01_k».proof.Proof.Words

@[expose] public section

set_option maxRecDepth 16384

noncomputable section

namespace Cert.Kernel2Ideal.Ffn

open Cert.Kernel2Ideal Cert.Kernel2Ideal.Gen Idealize.ShloMosaic Idealize.ShloMosaic.TcCoe

/-- A block of the first matrix, unpacked. -/
abbrev unU (w : Vec Ideal S1024x512 .i32) : Fin 2048 → Fin 512 → EReal := Words.rows (a := 1024) rfl w

/-- A block of the last matrix, unpacked. -/
abbrev unD (w : Vec Ideal S256x2048 .i32) : Fin 512 → Fin 2048 → EReal := Words.rows (a := 256) rfl w

/-- A bias and three taps. -/
def conv3 (b u0 w0 u1 w1 u2 w2 : EReal) : EReal := b + u0 * w0 + u1 * w1 + u2 * w2

/-- The gate's activation times the value. -/
def gated (g v : EReal) : EReal :=
  Ideal.ofBits FTy.f32 1056964608#32 * g
    * (1 + Ideal.tanh (Ideal.ofBits FTy.f32 1061962282#32 * (g + Ideal.ofBits FTy.f32 1027024659#32 * (g * g * g)))) * v

/-- One entry of a row scaled by its root mean square and by its weight. -/
def normAt (X : Fin 2048 → EReal) (nw : Fin 2048 → EReal) (k : Fin 2048) : EReal :=
  X k * Ideal.rsqrt (Ideal.div (∑ x, X x * X x) (Ideal.ofBits FTy.f32 1157627904#32) + Ideal.ofBits FTy.f32 897988541#32) * nw k

theorem pay2_at (x0 : Vec Ideal S512x2048 .f32) (x2 : Vec Ideal S1x2048 .f32) (r : Fin 512) (k : Fin 2048) :
    k0_pay2 x0 x2 (ix2 r k) = normAt (fun x => x0 (ix2 r x)) (fun x => x2 (ix2 0 x)) k := by
  pointwise [k0_pay2]
  rfl

theorem pay3_at (n : ℕ) (x1 : Vec Ideal S16x2048 .f32) (x2 : Vec Ideal S1x2048 .f32) (r : Fin 16) (k : Fin 2048) :
    k0_pay3 (BitVec.ofNat 32 n) x1 x2 (ix2 r k) = Scalar.select (Scalar.cmpi .sgt (BitVec.ofNat 32 n) 0#32) (normAt (fun x => x1 (ix2 r x)) (fun x => x2 (ix2 0 x)) k) 0 := by
  pointwise [k0_pay3]
  rfl

theorem pay4_at (h : Vec Ideal S272x2048 .bf16) (w : Vec Ideal S1024x512 .i32) (r : Fin 272) (x : Fin 512) :
    k0_pay4 h w (ix2 r x) = ∑ k, h (ix2 r k) * unU w k x := by
  pointwise [k0_pay4]
  exact Finset.sum_congr rfl fun k _ => congrArg (h (ix2 r k) * ·) (Words.bitcast_at rfl w _ k x)

theorem pay5_at (h : Vec Ideal S272x2048 .bf16) (w : Vec Ideal S1024x512 .i32) (r : Fin 272) (x : Fin 512) :
    k0_pay5 h w (ix2 r x) = ∑ k, h (ix2 r k) * unU w k x := by
  pointwise [k0_pay5]
  exact Finset.sum_congr rfl fun k _ => congrArg (h (ix2 r k) * ·) (Words.bitcast_at rfl w _ k x)

theorem pay6_at (h : Vec Ideal S256x2048 .bf16) (w : Vec Ideal S1024x512 .i32) (r : Fin 256) (x : Fin 512) :
    k0_pay6 h w (ix2 r x) = ∑ k, h (ix2 r k) * unU w k x := by
  pointwise [k0_pay6]
  exact Finset.sum_congr rfl fun k _ => congrArg (h (ix2 r k) * ·) (Words.bitcast_at rfl w _ k x)

theorem pay7_at (h : Vec Ideal S256x2048 .bf16) (w : Vec Ideal S1024x512 .i32) (r : Fin 256) (x : Fin 512) :
    k0_pay8 (k0_pay7 h w) (ix2 r x) = ∑ k, h (ix2 r k) * unU w k x := by
  pointwise [k0_pay8, k0_pay7]
  exact Finset.sum_congr rfl fun k _ => congrArg (h (ix2 r k) * ·) (Words.bitcast_at rfl w _ k x)

/-- The first half of the rows: the sum so far, plus the gated units through the last matrix. -/
theorem low_at (b b' w0 w1 w2 w0' w1' w2' : Vec Ideal S1x512 .f32) (u0 u1 u2 v0 v1 v2 : Vec Ideal S256x512 .f32) (o : Vec Ideal S256x2048 .f32) (wd : Vec Ideal S256x2048 .i32) (r : Fin 256) (d : Fin 2048) :
    k0_pay11 (k0_pay9 b u0 w0 u1 w1 u2 w2) b' v0 (k0_pay10 w0') v1 w1' v2 w2' o wd (ix2 r d)
      = o (ix2 r d) + ∑ x : Fin 512, gated (conv3 (b (ix2 0 x)) (u0 (ix2 r x)) (w0 (ix2 0 x)) (u1 (ix2 r x)) (w1 (ix2 0 x)) (u2 (ix2 r x)) (w2 (ix2 0 x)))
          (conv3 (b' (ix2 0 x)) (v0 (ix2 r x)) (w0' (ix2 0 x)) (v1 (ix2 r x)) (w1' (ix2 0 x)) (v2 (ix2 r x)) (w2' (ix2 0 x))) * unD wd x d := by
  pointwise [k0_pay11, k0_pay9, k0_pay10]
  exact congrArg (o (ix2 r d) + ·) (Finset.sum_congr rfl fun x _ => congrArg₂ (· * ·) rfl (Words.bitcast_at (a := 256) rfl wd _ x d))

/-- The second half of the rows: the same. -/
theorem high_at (b b' w0 w1 w2 w0' w1' w2' : Vec Ideal S1x512 .f32) (u0 u1 u2 v0 v1 v2 : Vec Ideal S256x512 .f32) (o : Vec Ideal S256x2048 .f32) (wd : Vec Ideal S256x2048 .i32) (r : Fin 256) (d : Fin 2048) :
    k0_pay1 (k0_pay13 (k0_pay12 b u0 w0 u1 w1) u2 w2 b' v0 w0' v1 w1' v2 w2') o wd (ix2 r d)
      = o (ix2 r d) + ∑ x : Fin 512, gated (conv3 (b (ix2 0 x)) (u0 (ix2 r x)) (w0 (ix2 0 x)) (u1 (ix2 r x)) (w1 (ix2 0 x)) (u2 (ix2 r x)) (w2 (ix2 0 x)))
          (conv3 (b' (ix2 0 x)) (v0 (ix2 r x)) (w0' (ix2 0 x)) (v1 (ix2 r x)) (w1' (ix2 0 x)) (v2 (ix2 r x)) (w2' (ix2 0 x))) * unD wd x d := by
  pointwise [k0_pay1, k0_pay13, k0_pay12]
  exact congrArg (o (ix2 r d) + ·) (Finset.sum_congr rfl fun x _ => congrArg₂ (· * ·) rfl (Words.bitcast_at (a := 256) rfl wd _ x d))

end Cert.Kernel2Ideal.Ffn

end
-- ==== Proof.FfnTile.lean ====
/- What one grid point of the feed-forward call computes. -/
module

public import proofs.«01_k».proof.Proof.Gen.Kernel2Ideal.Value
public import proofs.«01_k».proof.Proof.FfnPay

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The normalized rows through one block of columns of the first matrix. -/
def upT (h : Vec Ideal S528x2048 .bf16) (w : Vec Ideal S1024x512 .i32) (s : Fin 528) (x : Fin 512) : EReal :=
  ∑ k, h (ix2 s k) * unU w k x

/-- The gated units of one block of columns, for row `r` of a tile: the taps are rows 14, 15 and 16 below the scratch's row `r`. -/
def actT (h : Vec Ideal S528x2048 .bf16) (x3 x4 : Vec Ideal S1024x512 .i32) (x5 x6 : Vec Ideal S3x512 .f32) (x7 x8 : Vec Ideal S1x512 .f32) (r : Fin 512) (x : Fin 512) : EReal :=
  gated (conv3 (x7 (ix2 0 x)) (upT h x3 ⟨14 + r.val, by omega⟩ x) (x5 (ix2 0 x)) (upT h x3 ⟨15 + r.val, by omega⟩ x) (x5 (ix2 1 x)) (upT h x3 ⟨16 + r.val, by omega⟩ x) (x5 (ix2 2 x)))
    (conv3 (x8 (ix2 0 x)) (upT h x4 ⟨14 + r.val, by omega⟩ x) (x6 (ix2 0 x)) (upT h x4 ⟨15 + r.val, by omega⟩ x) (x6 (ix2 1 x)) (upT h x4 ⟨16 + r.val, by omega⟩ x) (x6 (ix2 2 x)))

/-- What a tile adds to the output. -/
def addT (h : Vec Ideal S528x2048 .bf16) (x3 x4 : Vec Ideal S1024x512 .i32) (x5 x6 : Vec Ideal S3x512 .f32) (x7 x8 : Vec Ideal S1x512 .f32) (x9 : Vec Ideal S256x2048 .i32) (r : Fin 512) (d : Fin 2048) : EReal :=
  ∑ x : Fin 512, actT h x3 x4 x5 x6 x7 x8 r x * unD x9 x d

/-- The normalized rows a tile starts from: sixteen rows before it, which are zero for the first tile, then its own. -/
def normR (i : ℕ) (x0 : Vec Ideal S512x2048 .f32) (x1 : Vec Ideal S16x2048 .f32) (x2 : Vec Ideal S1x2048 .f32) (s : Fin 528) (k : Fin 2048) : EReal :=
  if h : s.val < 16 then
    Scalar.select (Scalar.cmpi .sgt (BitVec.ofNat 32 i) 0#32) (normAt (fun x => x1 (ix2 ⟨s.val, h⟩ x)) (fun x => x2 (ix2 0 x)) k) 0
  else normAt (fun x => x0 (ix2 ⟨s.val - 16, by omega⟩ x)) (fun x => x2 (ix2 0 x)) k

/-- The same as an array. -/
def normT (i : ℕ) (x0 : Vec Ideal S512x2048 .f32) (x1 : Vec Ideal S16x2048 .f32) (x2 : Vec Ideal S1x2048 .f32) : Vec Ideal S528x2048 .bf16 := fun y =>
  normR i x0 x1 x2 (y 0) (y 1)

theorem normR_low (i : ℕ) (x0 : Vec Ideal S512x2048 .f32) (x1 : Vec Ideal S16x2048 .f32) (x2 : Vec Ideal S1x2048 .f32) (s : Fin 528) (k : Fin 2048) (r : Fin 16) (h : s.val = r.val) :
    normR i x0 x1 x2 s k = Scalar.select (Scalar.cmpi .sgt (BitVec.ofNat 32 i) 0#32) (normAt (fun x => x1 (ix2 r x)) (fun x => x2 (ix2 0 x)) k) 0 := by
  have hs : s.val < 16 := by omega
  have hr : (⟨s.val, hs⟩ : Fin 16) = r := Fin.ext h
  unfold normR
  rw [dif_pos hs, hr]

theorem normR_high (i : ℕ) (x0 : Vec Ideal S512x2048 .f32) (x1 : Vec Ideal S16x2048 .f32) (x2 : Vec Ideal S1x2048 .f32) (s : Fin 528) (k : Fin 2048) (r : Fin 512) (h : s.val = 16 + r.val) :
    normR i x0 x1 x2 s k = normAt (fun x => x0 (ix2 r x)) (fun x => x2 (ix2 0 x)) k := by
  have hs : ¬s.val < 16 := by omega
  have hr : (⟨s.val - 16, by omega⟩ : Fin 512) = r := Fin.ext (by show s.val - 16 = r.val; omega)
  unfold normR
  rw [dif_neg hs, hr]

/-- The scratch of the gate's columns, read at a row. -/
theorem stackG_at (H : Vec Ideal S528x2048 .bf16) (x3 : Vec Ideal S1024x512 .i32) (H0 : Vec Ideal S272x2048 .bf16) (H1 : Vec Ideal S256x2048 .bf16)
    (h0 : ∀ r k, H0 (ix2 r k) = H (ix2 ⟨0 + r.val, by omega⟩ k)) (h1 : ∀ r k, H1 (ix2 r k) = H (ix2 ⟨272 + r.val, by omega⟩ k)) (s : Fin 528) (x : Fin 512) :
    View.canon [(⟨Rect.unit (s := S528x512) ![272, 0] ![256, 512] inb_S528x512_S256x512_272_0, k0_pay6 H1 x3⟩ : View.Piece (Elt Ideal) S528x512 .f32),
      (⟨Rect.unit (s := S528x512) ![0, 0] ![272, 512] inb_S528x512_S272x512_0_0, k0_pay4 H0 x3⟩ : View.Piece (Elt Ideal) S528x512 .f32)] (ix2 s x) = upT H x3 s x :=
  Rows.canon_two (Val := Elt Ideal) (e := .f32) (M := 528) (N := 512) (k := 256) (k' := 272) (o := 272) (o' := 0) _ _ _ _ _ (upT H x3) s x (by omega)
    (fun r => (pay6_at _ _ _ _).trans (Finset.sum_congr rfl fun k _ => congrArg (· * unU x3 k x) (h1 r k)))
    (fun r => (pay4_at _ _ _ _).trans (Finset.sum_congr rfl fun k _ => congrArg (· * unU x3 k x) (h0 r k)))

/-- The scratch of the value's columns, read at a row. -/
theorem stackV_at (H : Vec Ideal S528x2048 .bf16) (x3 : Vec Ideal S1024x512 .i32) (H0 : Vec Ideal S272x2048 .bf16) (H1 : Vec Ideal S256x2048 .bf16)
    (h0 : ∀ r k, H0 (ix2 r k) = H (ix2 ⟨0 + r.val, by omega⟩ k)) (h1 : ∀ r k, H1 (ix2 r k) = H (ix2 ⟨272 + r.val, by omega⟩ k)) (s : Fin 528) (x : Fin 512) :
    View.canon [(⟨Rect.unit (s := S528x512) ![272, 0] ![256, 512] inb_S528x512_S256x512_272_0, k0_pay8 (k0_pay7 H1 x3)⟩ : View.Piece (Elt Ideal) S528x512 .f32),
      (⟨Rect.unit (s := S528x512) ![0, 0] ![272, 512] inb_S528x512_S272x512_0_0, k0_pay5 H0 x3⟩ : View.Piece (Elt Ideal) S528x512 .f32)] (ix2 s x) = upT H x3 s x :=
  Rows.canon_two (Val := Elt Ideal) (e := .f32) (M := 528) (N := 512) (k := 256) (k' := 272) (o := 272) (o' := 0) _ _ _ _ _ (upT H x3) s x (by omega)
    (fun r => (pay7_at _ _ _ _).trans (Finset.sum_congr rfl fun k _ => congrArg (· * unU x3 k x) (h1 r k)))
    (fun r => (pay5_at _ _ _ _).trans (Finset.sum_congr rfl fun k _ => congrArg (· * unU x3 k x) (h0 r k)))

/-- The scratch of normalized rows, as the first grid point of a tile writes it. -/
theorem stackH_at (i : ℕ) (x0 : Vec Ideal S512x2048 .f32) (x1 : Vec Ideal S16x2048 .f32) (x2 : Vec Ideal S1x2048 .f32) (s : Fin 528) (k : Fin 2048) :
    View.canon [(⟨Rect.unit (s := S528x2048) ![0, 0] ![16, 2048] inb_S528x2048_S16x2048_0_0, k0_pay3 (BitVec.ofNat 32 i) x1 x2⟩ : View.Piece (Elt Ideal) S528x2048 .bf16),
      (⟨Rect.unit (s := S528x2048) ![16, 0] ![512, 2048] inb_S528x2048_S512x2048_16_0, k0_pay2 x0 x2⟩ : View.Piece (Elt Ideal) S528x2048 .bf16)] (ix2 s k) = normR i x0 x1 x2 s k :=
  Rows.canon_two (Val := Elt Ideal) (e := .bf16) (M := 528) (N := 2048) (k := 16) (k' := 512) (o := 0) (o' := 16) _ _ _ _ _ (normR i x0 x1 x2) s k (by omega)
    (fun r => (pay3_at i x1 x2 r k).trans (normR_low i x0 x1 x2 _ k r (Nat.zero_add _)).symm)
    (fun r => (pay2_at x0 x2 r k).trans (normR_high i x0 x1 x2 _ k r rfl).symm)

end Cert.Kernel2Ideal.Ffn

end
-- ==== Proof.FfnStep.lean ====
/- What one grid point of the feed-forward call leaves in its output and in its scratch. -/
module

public import proofs.«01_k».proof.Proof.FfnTile

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The first half of a tile's rows. -/
theorem low_tile (H : Vec Ideal S528x2048 .bf16) (x3 x4 : Vec Ideal S1024x512 .i32) (x5 x6 : Vec Ideal S3x512 .f32) (x7 x8 : Vec Ideal S1x512 .f32) (x9 : Vec Ideal S256x2048 .i32) (base : Vec Ideal S512x2048 .f32)
    (w0 w1 w2 w0' w1' w2' : Vec Ideal S1x512 .f32) (u0 u1 u2 v0 v1 v2 : Vec Ideal S256x512 .f32) (o : Vec Ideal S256x2048 .f32)
    (hw0 : ∀ x, w0 (ix2 0 x) = x5 (ix2 0 x)) (hw1 : ∀ x, w1 (ix2 0 x) = x5 (ix2 1 x)) (hw2 : ∀ x, w2 (ix2 0 x) = x5 (ix2 2 x))
    (hw0' : ∀ x, w0' (ix2 0 x) = x6 (ix2 0 x)) (hw1' : ∀ x, w1' (ix2 0 x) = x6 (ix2 1 x)) (hw2' : ∀ x, w2' (ix2 0 x) = x6 (ix2 2 x))
    (hu0 : ∀ (r : Fin 256) x, u0 (ix2 r x) = upT H x3 ⟨14 + r.val, by omega⟩ x) (hu1 : ∀ (r : Fin 256) x, u1 (ix2 r x) = upT H x3 ⟨15 + r.val, by omega⟩ x) (hu2 : ∀ (r : Fin 256) x, u2 (ix2 r x) = upT H x3 ⟨16 + r.val, by omega⟩ x)
    (hv0 : ∀ (r : Fin 256) x, v0 (ix2 r x) = upT H x4 ⟨14 + r.val, by omega⟩ x) (hv1 : ∀ (r : Fin 256) x, v1 (ix2 r x) = upT H x4 ⟨15 + r.val, by omega⟩ x) (hv2 : ∀ (r : Fin 256) x, v2 (ix2 r x) = upT H x4 ⟨16 + r.val, by omega⟩ x)
    (ho : ∀ (r : Fin 256) d, o (ix2 r d) = base (ix2 ⟨0 + r.val, by omega⟩ d)) (r : Fin 256) (d : Fin 2048) :
    k0_pay11 (k0_pay9 x7 u0 w0 u1 w1 u2 w2) x8 v0 (k0_pay10 w0') v1 w1' v2 w2' o x9 (ix2 r d)
      = base (ix2 ⟨0 + r.val, by omega⟩ d) + addT H x3 x4 x5 x6 x7 x8 x9 ⟨0 + r.val, by omega⟩ d := by
  refine (low_at _ _ _ _ _ _ _ _ _ _ _ _ _ _ _ _ _ _).trans ?_
  rw [ho]
  refine congrArg (base (ix2 ⟨0 + r.val, by omega⟩ d) + ·) (Finset.sum_congr rfl fun x _ => ?_)
  rw [hw0, hw1, hw2, hw0', hw1', hw2', hu0, hu1, hu2, hv0, hv1, hv2]
  have e0 : (⟨14 + r.val, by omega⟩ : Fin 528) = ⟨14 + (0 + r.val), by omega⟩ := Fin.ext (by show 14 + r.val = 14 + (0 + r.val); omega)
  have e1 : (⟨15 + r.val, by omega⟩ : Fin 528) = ⟨15 + (0 + r.val), by omega⟩ := Fin.ext (by show 15 + r.val = 15 + (0 + r.val); omega)
  have e2 : (⟨16 + r.val, by omega⟩ : Fin 528) = ⟨16 + (0 + r.val), by omega⟩ := Fin.ext (by show 16 + r.val = 16 + (0 + r.val); omega)
  rw [e0, e1, e2]
  rfl

/-- The second half of a tile's rows. -/
theorem high_tile (H : Vec Ideal S528x2048 .bf16) (x3 x4 : Vec Ideal S1024x512 .i32) (x5 x6 : Vec Ideal S3x512 .f32) (x7 x8 : Vec Ideal S1x512 .f32) (x9 : Vec Ideal S256x2048 .i32) (base : Vec Ideal S512x2048 .f32)
    (w0 w1 w2 w0' w1' w2' : Vec Ideal S1x512 .f32) (u0 u1 u2 v0 v1 v2 : Vec Ideal S256x512 .f32) (o : Vec Ideal S256x2048 .f32)
    (hw0 : ∀ x, w0 (ix2 0 x) = x5 (ix2 0 x)) (hw1 : ∀ x, w1 (ix2 0 x) = x5 (ix2 1 x)) (hw2 : ∀ x, w2 (ix2 0 x) = x5 (ix2 2 x))
    (hw0' : ∀ x, w0' (ix2 0 x) = x6 (ix2 0 x)) (hw1' : ∀ x, w1' (ix2 0 x) = x6 (ix2 1 x)) (hw2' : ∀ x, w2' (ix2 0 x) = x6 (ix2 2 x))
    (hu0 : ∀ (r : Fin 256) x, u0 (ix2 r x) = upT H x3 ⟨270 + r.val, by omega⟩ x) (hu1 : ∀ (r : Fin 256) x, u1 (ix2 r x) = upT H x3 ⟨271 + r.val, by omega⟩ x) (hu2 : ∀ (r : Fin 256) x, u2 (ix2 r x) = upT H x3 ⟨272 + r.val, by omega⟩ x)
    (hv0 : ∀ (r : Fin 256) x, v0 (ix2 r x) = upT H x4 ⟨270 + r.val, by omega⟩ x) (hv1 : ∀ (r : Fin 256) x, v1 (ix2 r x) = upT H x4 ⟨271 + r.val, by omega⟩ x) (hv2 : ∀ (r : Fin 256) x, v2 (ix2 r x) = upT H x4 ⟨272 + r.val, by omega⟩ x)
    (ho : ∀ (r : Fin 256) d, o (ix2 r d) = base (ix2 ⟨256 + r.val, by omega⟩ d)) (r : Fin 256) (d : Fin 2048) :
    k0_pay1 (k0_pay13 (k0_pay12 x7 u0 w0 u1 w1) u2 w2 x8 v0 w0' v1 w1' v2 w2') o x9 (ix2 r d)
      = base (ix2 ⟨256 + r.val, by omega⟩ d) + addT H x3 x4 x5 x6 x7 x8 x9 ⟨256 + r.val, by omega⟩ d := by
  refine (high_at _ _ _ _ _ _ _ _ _ _ _ _ _ _ _ _ _ _).trans ?_
  rw [ho]
  refine congrArg (base (ix2 ⟨256 + r.val, by omega⟩ d) + ·) (Finset.sum_congr rfl fun x _ => ?_)
  rw [hw0, hw1, hw2, hw0', hw1', hw2', hu0, hu1, hu2, hv0, hv1, hv2]
  have e0 : (⟨270 + r.val, by omega⟩ : Fin 528) = ⟨14 + (256 + r.val), by omega⟩ := Fin.ext (by show 270 + r.val = 14 + (256 + r.val); omega)
  have e1 : (⟨271 + r.val, by omega⟩ : Fin 528) = ⟨15 + (256 + r.val), by omega⟩ := Fin.ext (by show 271 + r.val = 15 + (256 + r.val); omega)
  have e2 : (⟨272 + r.val, by omega⟩ : Fin 528) = ⟨16 + (256 + r.val), by omega⟩ := Fin.ext (by show 272 + r.val = 16 + (256 + r.val); omega)
  rw [e0, e1, e2]
  rfl

/-- A whole store stands where it is read. -/
theorem whole_at (x0 : Vec Ideal S512x2048 .f32) (s : Fin 512) (d : Fin 2048) :
    View.canon [(⟨Rect.unit (s := S512x2048) ![0, 0] ![512, 2048] inb_S512x2048_S512x2048_0_0, x0⟩ : View.Piece (Elt Ideal) S512x2048 .f32)] (ix2 s d) = x0 (ix2 s d) :=
  Rows.canon_row (Val := Elt Ideal) (e := .f32) (M := 512) (N := 2048) (k := 512) (o := 0) _ _ _ _ _ s (Nat.zero_add _).symm

/-- A later grid point of a tile adds its block of columns to the output. -/
theorem outB_at (c : Dev nD) (t : Fin cfg0.N) (hc0 : ¬cond0_0 (grid0.coords t))
    (x0 : Vec Ideal S512x2048 .f32) (x1 : Vec Ideal S16x2048 .f32) (x2 : Vec Ideal S1x2048 .f32) (x3 x4 : Vec Ideal S1024x512 .i32) (x5 x6 : Vec Ideal S3x512 .f32) (x7 x8 : Vec Ideal S1x512 .f32) (x9 : Vec Ideal S256x2048 .i32) (xo : Vec Ideal S512x2048 .f32) (xs : Vec Ideal S528x2048 .bf16) (r : Fin 512) (d : Fin 2048) :
    out0_B_10 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 x0 x1 x2 x3 x4 x5 x6 x7 x8 x9 xo xs (ix2 r d)
      = xo (ix2 r d) + addT xs x3 x4 x5 x6 x7 x8 x9 r d := by
  frame_out
  refine Rows.canon_two (Val := Elt Ideal) (e := .f32) (M := 512) (N := 2048) (k := 256) (k' := 256) (o := 256) (o' := 0) _ _ _ _ _ (fun r d => xo (ix2 r d) + addT xs x3 x4 x5 x6 x7 x8 x9 r d) r d (by omega) (fun q => ?_) (fun q => ?_)
  · exact high_tile xs x3 x4 x5 x6 x7 x8 x9 xo _ _ _ _ _ _ _ _ _ _ _ _ _
        (fun x => Rows.ld_row (M := 3) (N := 512) (k := 1) x5 _ 0 x)
        (fun x => Rows.ld_row (M := 3) (N := 512) (k := 1) x5 _ 0 x)
        (fun x => Rows.ld_row (M := 3) (N := 512) (k := 1) x5 _ 0 x)
        (fun x => Rows.ld_row (M := 3) (N := 512) (k := 1) x6 _ 0 x)
        (fun x => Rows.ld_row (M := 3) (N := 512) (k := 1) x6 _ 0 x)
        (fun x => Rows.ld_row (M := 3) (N := 512) (k := 1) x6 _ 0 x)
        (fun q x => (Rows.readCov_row (M := 528) (N := 512) (k := 256) _ _ _ q x).trans (stackG_at xs x3 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackG_at xs x3 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackG_at xs x3 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackV_at xs x4 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackV_at xs x4 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackV_at xs x4 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q d => Rows.ld_row (M := 512) (N := 2048) (k := 256) xo _ q d) q d
  · exact low_tile xs x3 x4 x5 x6 x7 x8 x9 xo _ _ _ _ _ _ _ _ _ _ _ _ _
        (fun x => Rows.ld_row (M := 3) (N := 512) (k := 1) x5 _ 0 x)
        (fun x => Rows.ld_row (M := 3) (N := 512) (k := 1) x5 _ 0 x)
        (fun x => Rows.ld_row (M := 3) (N := 512) (k := 1) x5 _ 0 x)
        (fun x => Rows.ld_row (M := 3) (N := 512) (k := 1) x6 _ 0 x)
        (fun x => Rows.ld_row (M := 3) (N := 512) (k := 1) x6 _ 0 x)
        (fun x => Rows.ld_row (M := 3) (N := 512) (k := 1) x6 _ 0 x)
        (fun q x => (Rows.readCov_row (M := 528) (N := 512) (k := 256) _ _ _ q x).trans (stackG_at xs x3 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackG_at xs x3 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackG_at xs x3 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackV_at xs x4 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackV_at xs x4 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q x => (Rows.readCov_row (M := 528) (N := 512) (k := 256) _ _ _ q x).trans (stackV_at xs x4 _ _ (fun q k => (Rows.ld_row (M := 528) (N := 2048) _ _ q k).trans (congrFun ((Memref.isWhole_whole cc0_scratch0).read_unread xs) _)) (fun q k => (Rows.ld_row (M := 528) (N := 2048) _ _ q k).trans (congrFun ((Memref.isWhole_whole cc0_scratch0).read_unread xs) _)) _ x))
        (fun q d => Rows.ld_row (M := 512) (N := 2048) (k := 256) xo _ q d) q d

/-- The first grid point of a tile puts its rows and its block of columns there. -/
theorem outA_at (c : Dev nD) (t : Fin cfg0.N) (hc0 : cond0_0 (grid0.coords t))
    (x0 : Vec Ideal S512x2048 .f32) (x1 : Vec Ideal S16x2048 .f32) (x2 : Vec Ideal S1x2048 .f32) (x3 x4 : Vec Ideal S1024x512 .i32) (x5 x6 : Vec Ideal S3x512 .f32) (x7 x8 : Vec Ideal S1x512 .f32) (x9 : Vec Ideal S256x2048 .i32)  (r : Fin 512) (d : Fin 2048) :
    out0_A_10 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 x0 x1 x2 x3 x4 x5 x6 x7 x8 x9  (ix2 r d)
      = x0 (ix2 r d) + addT (normT ((grid0.coords t) 0).val x0 x1 x2) x3 x4 x5 x6 x7 x8 x9 r d := by
  frame_out
  refine Rows.canon_two (Val := Elt Ideal) (e := .f32) (M := 512) (N := 2048) (k := 256) (k' := 256) (o := 256) (o' := 0) _ _ _ _ _ (fun r d => x0 (ix2 r d) + addT (normT ((grid0.coords t) 0).val x0 x1 x2) x3 x4 x5 x6 x7 x8 x9 r d) r d (by omega) (fun q => ?_) (fun q => ?_)
  · exact high_tile (normT ((grid0.coords t) 0).val x0 x1 x2) x3 x4 x5 x6 x7 x8 x9 x0 _ _ _ _ _ _ _ _ _ _ _ _ _
        (fun x => Rows.ld_row (M := 3) (N := 512) (k := 1) x5 _ 0 x)
        (fun x => Rows.ld_row (M := 3) (N := 512) (k := 1) x5 _ 0 x)
        (fun x => Rows.ld_row (M := 3) (N := 512) (k := 1) x5 _ 0 x)
        (fun x => Rows.ld_row (M := 3) (N := 512) (k := 1) x6 _ 0 x)
        (fun x => Rows.ld_row (M := 3) (N := 512) (k := 1) x6 _ 0 x)
        (fun x => Rows.ld_row (M := 3) (N := 512) (k := 1) x6 _ 0 x)
        (fun q x => (Rows.readCov_row (M := 528) (N := 512) (k := 256) _ _ _ q x).trans (stackG_at (normT ((grid0.coords t) 0).val x0 x1 x2) x3 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackG_at (normT ((grid0.coords t) 0).val x0 x1 x2) x3 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackG_at (normT ((grid0.coords t) 0).val x0 x1 x2) x3 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackV_at (normT ((grid0.coords t) 0).val x0 x1 x2) x4 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackV_at (normT ((grid0.coords t) 0).val x0 x1 x2) x4 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackV_at (normT ((grid0.coords t) 0).val x0 x1 x2) x4 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q d => (Rows.readCov_row (M := 512) (N := 2048) (k := 256) _ _ _ q d).trans ((Rows.canon_off (Val := Elt Ideal) (e := .f32) (M := 512) (N := 2048) (k := 256) (o := 0) _ _ _ _ _ (Or.inr (by show 0 + 256 ≤ 256 + q.val; omega))).trans (whole_at _ _ _))) q d
  · exact low_tile (normT ((grid0.coords t) 0).val x0 x1 x2) x3 x4 x5 x6 x7 x8 x9 x0 _ _ _ _ _ _ _ _ _ _ _ _ _
        (fun x => Rows.ld_row (M := 3) (N := 512) (k := 1) x5 _ 0 x)
        (fun x => Rows.ld_row (M := 3) (N := 512) (k := 1) x5 _ 0 x)
        (fun x => Rows.ld_row (M := 3) (N := 512) (k := 1) x5 _ 0 x)
        (fun x => Rows.ld_row (M := 3) (N := 512) (k := 1) x6 _ 0 x)
        (fun x => Rows.ld_row (M := 3) (N := 512) (k := 1) x6 _ 0 x)
        (fun x => Rows.ld_row (M := 3) (N := 512) (k := 1) x6 _ 0 x)
        (fun q x => (Rows.readCov_row (M := 528) (N := 512) (k := 256) _ _ _ q x).trans (stackG_at (normT ((grid0.coords t) 0).val x0 x1 x2) x3 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackG_at (normT ((grid0.coords t) 0).val x0 x1 x2) x3 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackG_at (normT ((grid0.coords t) 0).val x0 x1 x2) x3 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackV_at (normT ((grid0.coords t) 0).val x0 x1 x2) x4 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackV_at (normT ((grid0.coords t) 0).val x0 x1 x2) x4 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q x => (Rows.readCov_row (M := 528) (N := 512) (k := 256) _ _ _ q x).trans (stackV_at (normT ((grid0.coords t) 0).val x0 x1 x2) x4 _ _ (fun q k => (Rows.readCov_row (M := 528) (N := 2048) _ _ _ q k).trans (stackH_at _ x0 x1 x2 _ k)) (fun q k => (Rows.readCov_row (M := 528) (N := 2048) _ _ _ q k).trans (stackH_at _ x0 x1 x2 _ k)) _ x))
        (fun q d => (Rows.readCov_row (M := 512) (N := 2048) (k := 256) _ _ _ q d).trans (whole_at _ _ _)) q d

/-- The first grid point of a tile leaves its normalized rows in the scratch. -/
theorem soutA_at (c : Dev nD) (t : Fin cfg0.N) (hc0 : cond0_0 (grid0.coords t))
    (x0 : Vec Ideal S512x2048 .f32) (x1 : Vec Ideal S16x2048 .f32) (x2 : Vec Ideal S1x2048 .f32) (x3 x4 : Vec Ideal S1024x512 .i32) (x5 x6 : Vec Ideal S3x512 .f32) (x7 x8 : Vec Ideal S1x512 .f32) (x9 : Vec Ideal S256x2048 .i32) :
    sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) scM0_2 (Memref.isWhole_whole _) hc0 x0 x1 x2 x3 x4 x5 x6 x7 x8 x9 = (normT ((grid0.coords t) 0).val x0 x1 x2) := by
  funext y
  rw [Rows.eta y]
  frame_out
  exact stackH_at _ x0 x1 x2 _ _

end Cert.Kernel2Ideal.Ffn

end
-- ==== Proof.FfnBlocks.lean ====
/- The blocks one grid point of the feed-forward call stages, read at an index of the arrays they are cut from. -/
module

public import proofs.«01_k».proof.Proof.FfnStep

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Which block of each array the windows stage. -/
theorem idx : ∀ t : Fin cfg0.N, win0_0.index t = ![t.val / 11, 0] ∧ win0_1.index t = ![32 * (t.val / 11) - 1, 0] ∧ win0_2.index t = ![0, 0]
    ∧ win0_3.index t = ![0, t.val % 11] ∧ win0_4.index t = ![0, 11 + t.val % 11] ∧ win0_5.index t = ![0, t.val % 11] ∧ win0_6.index t = ![0, 11 + t.val % 11]
    ∧ win0_7.index t = ![0, t.val % 11] ∧ win0_8.index t = ![0, 11 + t.val % 11] ∧ win0_9.index t = ![t.val % 11, 0] ∧ win0_10.index t = ![t.val / 11, 0] :=
  (by decide +kernel : ∀ t : Fin grid0.N, _)

theorem coord : ∀ t : Fin cfg0.N, (grid0.coords t 0).val = t.val / 11 := (by decide +kernel : ∀ t : Fin grid0.N, _)

theorem lt352 (t : Fin cfg0.N) : t.val < 352 := lt_of_lt_of_eq t.isLt (by decide)

abbrev argX : Vec Ideal S16384x2048 .f32 := m ((c : Thread nD τ).loc main_arg0)
abbrev argN : Vec Ideal S1x2048 .f32 := m ((c : Thread nD τ).loc main_arg1)
abbrev argU : Vec Ideal S1024x11264 .i32 := m ((c : Thread nD τ).loc main_arg2)
abbrev argC : Vec Ideal S3x11264 .f32 := m ((c : Thread nD τ).loc main_arg3)
abbrev argB : Vec Ideal S1x11264 .f32 := m ((c : Thread nD τ).loc main_arg4)
abbrev argD : Vec Ideal S2816x2048 .i32 := m ((c : Thread nD τ).loc main_arg5)

theorem b0_at (t : Fin cfg0.N) (r : Fin 512) (k : Fin 2048) :
    iblk m c 0 t (ix2 r k) = argX m c (ix2 ⟨512 * (t.val / 11) + r.val, by have := lt352 t; omega⟩ k) := by
  blk_point [iblk, V, idx t]

theorem b1_at (t : Fin cfg0.N) (r : Fin 16) (k : Fin 2048) :
    iblk m c 1 t (ix2 r k) = argX m c (ix2 ⟨16 * (32 * (t.val / 11) - 1) + r.val, by have := lt352 t; omega⟩ k) := by
  blk_point [iblk, V, idx t]

theorem b2_at (t : Fin cfg0.N) (k : Fin 2048) : iblk m c 2 t (ix2 0 k) = argN m c (ix2 0 k) := by
  blk_point [iblk, V, idx t]

theorem b3_at (t : Fin cfg0.N) (k : Fin 1024) (x : Fin 512) :
    iblk m c 3 t (ix2 k x) = argU m c (ix2 k ⟨512 * (t.val % 11) + x.val, by omega⟩) := by
  blk_point [iblk, V, idx t]

theorem b4_at (t : Fin cfg0.N) (k : Fin 1024) (x : Fin 512) :
    iblk m c 4 t (ix2 k x) = argU m c (ix2 k ⟨5632 + (512 * (t.val % 11) + x.val), by omega⟩) := by
  blk_point [iblk, V, idx t]

theorem b5_at (t : Fin cfg0.N) (k : Fin 3) (x : Fin 512) :
    iblk m c 5 t (ix2 k x) = argC m c (ix2 k ⟨512 * (t.val % 11) + x.val, by omega⟩) := by
  blk_point [iblk, V, idx t]

theorem b6_at (t : Fin cfg0.N) (k : Fin 3) (x : Fin 512) :
    iblk m c 6 t (ix2 k x) = argC m c (ix2 k ⟨5632 + (512 * (t.val % 11) + x.val), by omega⟩) := by
  blk_point [iblk, V, idx t]

theorem b7_at (t : Fin cfg0.N) (x : Fin 512) :
    iblk m c 7 t (ix2 0 x) = argB m c (ix2 0 ⟨512 * (t.val % 11) + x.val, by omega⟩) := by
  blk_point [iblk, V, idx t]

theorem b8_at (t : Fin cfg0.N) (x : Fin 512) :
    iblk m c 8 t (ix2 0 x) = argB m c (ix2 0 ⟨5632 + (512 * (t.val % 11) + x.val), by omega⟩) := by
  blk_point [iblk, V, idx t]

theorem b9_at (t : Fin cfg0.N) (x : Fin 256) (d : Fin 2048) :
    iblk m c 9 t (ix2 x d) = argD m c (ix2 ⟨256 * (t.val % 11) + x.val, by omega⟩ d) := by
  blk_point [iblk, V, idx t]

/-- The columns of the gate, unpacked. -/
theorem u3_at (t : Fin cfg0.N) (k : Fin 2048) (x : Fin 512) :
    unU (iblk m c 3 t) k x = Words.rows (a := 1024) (b := 2048) rfl (argU m c) k ⟨512 * (t.val % 11) + x.val, by omega⟩ :=
  congrArg (fun v => Words.half v (k.val % 2)) (b3_at m c t _ x)

/-- The columns of the value, unpacked. -/
theorem u4_at (t : Fin cfg0.N) (k : Fin 2048) (x : Fin 512) :
    unU (iblk m c 4 t) k x = Words.rows (a := 1024) (b := 2048) rfl (argU m c) k ⟨5632 + (512 * (t.val % 11) + x.val), by omega⟩ :=
  congrArg (fun v => Words.half v (k.val % 2)) (b4_at m c t _ x)

/-- The rows of the last matrix, unpacked. -/
theorem u9_at (t : Fin cfg0.N) (x : Fin 512) (d : Fin 2048) :
    unD (iblk m c 9 t) x d = Words.rows (a := 2816) (b := 5632) rfl (argD m c) ⟨512 * (t.val % 11) + x.val, by omega⟩ d := by
  show Words.half (iblk m c 9 t (ix2 ⟨x.val / 2, _⟩ d)) (x.val % 2) = Words.half (argD m c (ix2 ⟨(512 * (t.val % 11) + x.val) / 2, _⟩ d)) ((512 * (t.val % 11) + x.val) % 2)
  rw [b9_at]
  have e1 : 256 * (t.val % 11) + x.val / 2 = (512 * (t.val % 11) + x.val) / 2 := by omega
  have e2 : x.val % 2 = (512 * (t.val % 11) + x.val) % 2 := by omega
  simp only [e1, e2]

end Cert.Kernel2Ideal.Ffn

end
-- ==== Proof.FfnSpec.lean ====
/- The feed-forward layer as plain sums: a normalized row, three causal taps of its up-projection, the gated units, the down-projection. -/
module

public import proofs.«01_k».proof.Proof.FfnPay

@[expose] public section

set_option maxRecDepth 16384

noncomputable section

namespace Cert.Ffn

open Cert.Kernel2Ideal.Ffn

variable (X : Fin 16384 → Fin 2048 → EReal) (nw : Fin 2048 → EReal) (wu : Fin 2048 → Fin 11264 → EReal) (cw : Fin 3 → Fin 11264 → EReal) (b : Fin 11264 → EReal) (wd : Fin 5632 → Fin 2048 → EReal)

/-- The up-projection of the normalized row `r`. -/
def up (r : Fin 16384) (c : Fin 11264) : EReal := ∑ k, normAt (X r) nw k * wu k c

/-- The up-projection `d` rows back, zero before the first row. -/
def back (d : ℕ) (r : Fin 16384) (c : Fin 11264) : EReal := if d ≤ r.val then up X nw wu ⟨r.val - d, by omega⟩ c else 0

/-- The causal convolution. -/
def taps (r : Fin 16384) (c : Fin 11264) : EReal :=
  conv3 (b c) (back X nw wu 2 r c) (cw 0 c) (back X nw wu 1 r c) (cw 1 c) (back X nw wu 0 r c) (cw 2 c)

/-- One gated unit: the first half of the columns gates the second. -/
def unit (r : Fin 16384) (c : Fin 5632) : EReal :=
  gated (taps X nw wu cw b r ⟨c.val, by omega⟩) (taps X nw wu cw b r ⟨5632 + c.val, by omega⟩)

/-- The layer. -/
def res (r : Fin 16384) (d : Fin 2048) : EReal := X r d + ∑ c : Fin 5632, unit X nw wu cw b r c * wd c d

/-- One unit's share of an output, by number. -/
def term (r : Fin 16384) (d : Fin 2048) (n : ℕ) : EReal := if h : n < 5632 then unit X nw wu cw b r ⟨n, h⟩ * wd ⟨n, h⟩ d else 0

theorem term_lt (r : Fin 16384) (d : Fin 2048) (c : Fin 5632) (n : ℕ) (h : n = c.val) : term X nw wu cw b wd r d n = unit X nw wu cw b r c * wd c d := by
  subst h
  exact dif_pos c.isLt

theorem res_eq (r : Fin 16384) (d : Fin 2048) : res X nw wu cw b wd r d = X r d + ∑ n ∈ Finset.range 5632, term X nw wu cw b wd r d n := by
  unfold res
  rw [Finset.sum_range]
  exact congrArg (X r d + ·) (Finset.sum_congr rfl fun c _ => (term_lt X nw wu cw b wd r d c _ rfl).symm)

end Cert.Ffn

end
-- ==== Proof.FfnRun.lean ====
/- The feed-forward call's array after its run: the layer as plain sums. -/
module

public import proofs.«01_k».proof.Proof.FfnBlocks
public import proofs.«01_k».proof.Proof.FfnSpec

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

variable (m : (ℓ : Loc nD τ sig) → Buf (Elt Ideal) ℓ) (c : Dev nD)

def fX : Fin 16384 → Fin 2048 → EReal := fun r k => argX m c (ix2 r k)
def fN : Fin 2048 → EReal := fun k => argN m c (ix2 0 k)
def fU : Fin 2048 → Fin 11264 → EReal := Words.rows (a := 1024) rfl (argU m c)
def fC : Fin 3 → Fin 11264 → EReal := fun k x => argC m c (ix2 k x)
def fB : Fin 11264 → EReal := fun x => argB m c (ix2 0 x)
def fD : Fin 5632 → Fin 2048 → EReal := Words.rows (a := 2816) rfl (argD m c)

/-- The normalized rows tile `i` keeps: sixteen before its own, zero before the first row. -/
def hrow (i : ℕ) (hi : i < 32) (s : Fin 528) (k : Fin 2048) : EReal :=
  if 16 ≤ 512 * i + s.val then normAt (fX m c ⟨512 * i + s.val - 16, by omega⟩) (fN m c) k else 0

def hT (i : ℕ) (hi : i < 32) : Vec Ideal S528x2048 .bf16 := fun y => hrow m c i hi (y 0) (y 1)

theorem hT_congr {i j : ℕ} (h : i = j) (hi : i < 32) (hj : j < 32) : hT m c i hi = hT m c j hj := by
  subst h
  rfl

theorem div32 (t : Fin cfg0.N) : t.val / 11 < 32 := by have := lt352 t; omega

theorem pos_select (n : ℕ) (hn : n < 32) (a : EReal) :
    Scalar.select (Scalar.cmpi .sgt (BitVec.ofNat 32 n) 0#32) a 0 = if n = 0 then (0 : EReal) else a := by
  have h : ∀ k : Fin 32, Scalar.cmpi .sgt (BitVec.ofNat 32 k.val) 0#32 = if k.val = 0 then 0#1 else 1#1 := by decide
  rw [h ⟨n, hn⟩]
  by_cases h0 : n = 0
  · simp only [h0, if_true]; rfl
  · simp only [h0, if_false]; rfl

/-- A row of the first grid point's scratch. -/
theorem norm_row (t : Fin cfg0.N) (s : Fin 528) (k : Fin 2048) :
    normR (t.val / 11) (iblk m c 0 t) (iblk m c 1 t) (iblk m c 2 t) s k = hrow m c (t.val / 11) (div32 t) s k := by
  have ht := lt352 t
  have h2 : (fun x => iblk m c 2 t (ix2 0 x)) = fN m c := funext fun x => b2_at m c t x
  unfold hrow
  by_cases hs : s.val < 16
  · rw [normR_low _ _ _ _ s k ⟨s.val, hs⟩ rfl, pos_select _ (div32 t), h2]
    by_cases h0 : t.val / 11 = 0
    · rw [if_pos h0, if_neg (by omega)]
    · rw [if_neg h0, if_pos (by omega)]
      refine congrArg (fun f => normAt f (fN m c) k) (funext fun x => (b1_at m c t _ x).trans ?_)
      exact congrArg (fun q => argX m c (ix2 q x)) (Fin.ext (by show 16 * (32 * (t.val / 11) - 1) + s.val = 512 * (t.val / 11) + s.val - 16; omega))
  · rw [normR_high _ _ _ _ s k ⟨s.val - 16, by omega⟩ (by show s.val = 16 + (s.val - 16); omega), h2, if_pos (by omega)]
    refine congrArg (fun f => normAt f (fN m c) k) (funext fun x => (b0_at m c t _ x).trans ?_)
    exact congrArg (fun q => argX m c (ix2 q x)) (Fin.ext (by show 512 * (t.val / 11) + (s.val - 16) = 512 * (t.val / 11) + s.val - 16; omega))

/-- What the first grid point of a tile leaves in the scratch. -/
theorem norm_eq (t : Fin cfg0.N) : normT ((grid0.coords t) 0).val (iblk m c 0 t) (iblk m c 1 t) (iblk m c 2 t) = hT m c (t.val / 11) (div32 t) := by
  funext y
  rw [coord]
  exact norm_row m c t (y 0) (y 1)

/-- A tap of the scratch is the up-projection so many rows back. -/
theorem tap_at (i : ℕ) (hi : i < 32) (w : Vec Ideal S1024x512 .i32) (q : Fin 512 → Fin 11264) (hw : ∀ k x, unU w k x = fU m c k (q x)) (d : ℕ) (hd : d ≤ 2) (r x : Fin 512) (s : Fin 528) (hs : s.val = 16 - d + r.val) :
    upT (hT m c i hi) w s x = Cert.Ffn.back (fX m c) (fN m c) (fU m c) d ⟨512 * i + r.val, by omega⟩ (q x) := by
  unfold upT Cert.Ffn.back
  by_cases h : d ≤ 512 * i + r.val
  · rw [if_pos h]
    refine Finset.sum_congr rfl fun k _ => ?_
    rw [hw]
    refine congrArg (· * fU m c k (q x)) ?_
    show hrow m c i hi s k = _
    unfold hrow
    rw [if_pos (by omega)]
    exact congrArg (fun p => normAt (fX m c p) (fN m c) k) (Fin.ext (by show 512 * i + s.val - 16 = 512 * i + r.val - d; omega))
  · rw [if_neg h]
    refine Finset.sum_eq_zero fun k _ => ?_
    show hrow m c i hi s k * _ = 0
    unfold hrow
    rw [if_neg (by omega), zero_mul]

/-- What a grid point adds to an output: its 512 units' shares. -/
theorem add_at (t : Fin cfg0.N) (r : Fin 512) (d : Fin 2048) :
    addT (hT m c (t.val / 11) (div32 t)) (iblk m c 3 t) (iblk m c 4 t) (iblk m c 5 t) (iblk m c 6 t) (iblk m c 7 t) (iblk m c 8 t) (iblk m c 9 t) r d
      = ∑ n ∈ Finset.range 512, Cert.Ffn.term (fX m c) (fN m c) (fU m c) (fC m c) (fB m c) (fD m c) ⟨512 * (t.val / 11) + r.val, by have := lt352 t; omega⟩ d (512 * (t.val % 11) + n) := by
  have ht := lt352 t
  rw [Finset.sum_range]
  refine Finset.sum_congr rfl fun x _ => ?_
  rw [Cert.Ffn.term_lt _ _ _ _ _ _ _ _ ⟨512 * (t.val % 11) + x.val, by omega⟩ _ rfl]
  refine congrArg₂ (· * ·) ?_ (u9_at m c t x d)
  unfold actT Cert.Ffn.unit Cert.Ffn.taps
  rw [b7_at, b8_at, b5_at, b5_at, b5_at, b6_at, b6_at, b6_at]
  rw [tap_at m c _ (div32 t) (iblk m c 3 t) (fun x => ⟨512 * (t.val % 11) + x.val, by omega⟩) (fun k x => u3_at m c t k x) 2 (by omega) r x _ rfl,
    tap_at m c _ (div32 t) (iblk m c 3 t) (fun x => ⟨512 * (t.val % 11) + x.val, by omega⟩) (fun k x => u3_at m c t k x) 1 (by omega) r x _ rfl,
    tap_at m c _ (div32 t) (iblk m c 3 t) (fun x => ⟨512 * (t.val % 11) + x.val, by omega⟩) (fun k x => u3_at m c t k x) 0 (by omega) r x _ rfl,
    tap_at m c _ (div32 t) (iblk m c 4 t) (fun x => ⟨5632 + (512 * (t.val % 11) + x.val), by omega⟩) (fun k x => u4_at m c t k x) 2 (by omega) r x _ rfl,
    tap_at m c _ (div32 t) (iblk m c 4 t) (fun x => ⟨5632 + (512 * (t.val % 11) + x.val), by omega⟩) (fun k x => u4_at m c t k x) 1 (by omega) r x _ rfl,
    tap_at m c _ (div32 t) (iblk m c 4 t) (fun x => ⟨5632 + (512 * (t.val % 11) + x.val), by omega⟩) (fun k x => u4_at m c t k x) 0 (by omega) r x _ rfl]
  rfl

/-- The output of row tile `t / 11` after its first `t % 11 + 1` blocks of units. -/
def sofarR (t : Fin cfg0.N) (r : Fin 512) (d : Fin 2048) : EReal :=
  fX m c ⟨512 * (t.val / 11) + r.val, by have := lt352 t; omega⟩ d
    + ∑ n ∈ Finset.range (512 * (t.val % 11 + 1)), Cert.Ffn.term (fX m c) (fN m c) (fU m c) (fC m c) (fB m c) (fD m c) ⟨512 * (t.val / 11) + r.val, by have := lt352 t; omega⟩ d n

def sofar (t : Fin cfg0.N) : Vec Ideal S512x2048 .f32 := fun y => sofarR m c t (y 0) (y 1)

theorem first_out (t : Fin cfg0.N) (h0 : t.val % 11 = 0) (r : Fin 512) (d : Fin 2048) (o : EReal) (ho : o = argX m c (ix2 ⟨512 * (t.val / 11) + r.val, by have := lt352 t; omega⟩ d)) :
    o + addT (hT m c (t.val / 11) (div32 t)) (iblk m c 3 t) (iblk m c 4 t) (iblk m c 5 t) (iblk m c 6 t) (iblk m c 7 t) (iblk m c 8 t) (iblk m c 9 t) r d = sofarR m c t r d := by
  rw [add_at, ho]
  unfold sofarR
  rw [h0]
  simp only [Nat.mul_zero, Nat.zero_add, Nat.mul_one]
  rfl

theorem later_out (t p : Fin cfg0.N) (hd : p.val / 11 = t.val / 11) (hm : t.val % 11 = p.val % 11 + 1) (r : Fin 512) (d : Fin 2048) :
    sofarR m c p r d + addT (hT m c (t.val / 11) (div32 t)) (iblk m c 3 t) (iblk m c 4 t) (iblk m c 5 t) (iblk m c 6 t) (iblk m c 7 t) (iblk m c 8 t) (iblk m c 9 t) r d = sofarR m c t r d := by
  rw [add_at]
  unfold sofarR
  rw [Nat.mul_add 512 (t.val % 11) 1, Nat.mul_one, Finset.sum_range_add, ← add_assoc, hm]
  simp only [hd]

/-- At the first grid point of a tile. -/
theorem first (t : Fin cfg0.N) (h0 : t.val % 11 = 0) : outsAt0 m c t.val t.isLt = (sofar m c t, hT m c (t.val / 11) (div32 t)) := by
  rw [outsAt0_A m c t h0]
  refine congrArg₂ Prod.mk ?_ ?_
  · refine Rows.ext_rows (M := 512) (N := 2048) fun r d => ?_
    refine (outA_at c t ((hcond0_0 t).mpr h0) _ _ _ _ _ _ _ _ _ _ r d).trans ?_
    rw [norm_eq]
    exact first_out m c t h0 r d _ (b0_at m c t r d)
  · exact (soutA_at c t ((hcond0_0 t).mpr h0) _ _ _ _ _ _ _ _ _ _).trans (norm_eq m c t)

/-- At a later one. -/
theorem later (t p : Fin cfg0.N) (hp : t.val - 1 = p.val) (hd : p.val / 11 = t.val / 11) (hm : t.val % 11 = p.val % 11 + 1) (h0 : ¬t.val % 11 = 0)
    (ih : outsAt0 m c p.val p.isLt = (sofar m c p, hT m c (p.val / 11) (div32 p))) :
    outsAt0 m c t.val t.isLt = (sofar m c t, hT m c (t.val / 11) (div32 t)) := by
  have hH : hT m c (p.val / 11) (div32 p) = hT m c (t.val / 11) (div32 t) := hT_congr m c hd _ _
  have hq : outsAt0 m c (t.val - 1) (Nat.lt_of_le_of_lt (Nat.sub_le _ _) t.isLt) = (sofar m c p, hT m c (t.val / 11) (div32 t)) := by
    rw [← hH, ← ih]
    simp only [hp]
  rw [outsAt0_B m c t h0, hq]
  refine congrArg₂ Prod.mk ?_ rfl
  refine Rows.ext_rows (M := 512) (N := 2048) fun r d => ?_
  refine (outB_at c t (fun h => h0 ((hcond0_0 t).mp h)) _ _ _ _ _ _ _ _ _ _ _ _ r d).trans ?_
  exact later_out m c t p hd hm r d

/-- At every one. -/
theorem every : ∀ (n : ℕ) (h : n < cfg0.N), outsAt0 m c n h = (sofar m c ⟨n, h⟩, hT m c (n / 11) (div32 ⟨n, h⟩))
  | 0, h => first m c ⟨0, h⟩ rfl
  | n + 1, h => by
    by_cases h0 : (n + 1) % 11 = 0
    · exact first m c ⟨n + 1, h⟩ h0
    · exact later m c ⟨n + 1, h⟩ ⟨n, Nat.lt_of_succ_lt h⟩ rfl (by show n / 11 = (n + 1) / 11; omega) (by show (n + 1) % 11 = n % 11 + 1; omega) h0
        (every n (Nat.lt_of_succ_lt h))

/-- The array after the run. -/
def outArr : Vec Ideal S16384x2048 .f32 := fun y => Cert.Ffn.res (fX m c) (fN m c) (fU m c) (fC m c) (fB m c) (fD m c) (y 0) (y 1)

theorem out_eq : Cert.Kernel2Ideal.Value.G10 m c = outArr m c := by
  refine Rows.ext_rows (M := 16384) (N := 2048) fun r d => ?_
  have hpt : Cert.Kernel2Ideal.Value.pt10Of (ix2 r d) = 11 * (r.val / 512) + 10 := by
    show 11 * (1 * (r.val / 512 - 0) + 1 * (d.val / 2048 - 0)) + 10 = _
    omega
  have hlt : Cert.Kernel2Ideal.Value.pt10Of (ix2 r d) < cfg0.N := by
    rw [hpt]
    exact lt_of_lt_of_eq (by omega : 11 * (r.val / 512) + 10 < 352) (by decide)
  unfold Cert.Kernel2Ideal.Value.G10
  rw [dif_pos hlt, ← Cert.Kernel2Ideal.Value.outsAt0_sweep m c _ hlt, every]
  show sofarR m c ⟨_, hlt⟩ ⟨r.val % 512, _⟩ ⟨d.val % 2048, _⟩ = Cert.Ffn.res _ _ _ _ _ _ r d
  rw [Cert.Ffn.res_eq]
  unfold sofarR
  have e1 : Cert.Kernel2Ideal.Value.pt10Of (ix2 r d) / 11 = r.val / 512 := by omega
  have e2 : 512 * (Cert.Kernel2Ideal.Value.pt10Of (ix2 r d) % 11 + 1) = 5632 := by omega
  have e3 : (⟨512 * (Cert.Kernel2Ideal.Value.pt10Of (ix2 r d) / 11) + r.val % 512, by omega⟩ : Fin 16384) = r := Fin.ext (by show 512 * (Cert.Kernel2Ideal.Value.pt10Of (ix2 r d) / 11) + r.val % 512 = r.val; omega)
  have e4 : (⟨d.val % 2048, by omega⟩ : Fin 2048) = d := Fin.ext (by show d.val % 2048 = d.val; omega)
  simp only [e2]
  rw [e4, e3]

end Cert.Kernel2Ideal.Ffn

end
-- ==== Proof.FfnRef.lean ====
/- The feed-forward reference's result at a row and a column. -/
module

public import proofs.«01_k».proof.Proof.Gen.Reference2Ideal.Run
public import proofs.«01_k».proof.Proof.FfnSpec
public import proofs.«01_k».proof.Proof.Rows
public import proofs.«01_k».proof.Proof.Words

@[expose] public section

set_option maxRecDepth 16384

noncomputable section

namespace Cert.Soft

open Idealize.ShloMosaic

theorem reduce_rows {n0 n1 : ℕ} (s : FVec Ideal ⟨2, ![n0, n1]⟩ .f32)
    (h : (⟨2, ![n0, n1]⟩ : Shape).ReducesTo [1] ⟨1, ![n0]⟩) (hu : 0 < (⟨0, ![]⟩ : Shape).numel) (a : Fin n0) :
    Host.reduceAdd s (constant ⟨0, ![]⟩ .f32 0x00000000#32) h hu (ix1 a) = ∑ x : Fin n1, s (ix2 a x) := by
  pointwise []

end Cert.Soft

namespace Cert.Reference2Ideal.Ffn

open Cert.Reference2Ideal Cert.Reference2Ideal.Gen Idealize.ShloMosaic Idealize.ShloMosaic.TcCoe Idealize.SL.Sem

/-- Each row's sum. -/
def sums (s : FVec Ideal S16384x2048 .f32) : FVec Ideal S16384 .f32 :=
  Host.reduceAdd s (constant S_ .f32 0x00000000#32) reducesTo_S16384x2048_S16384_d1 h_S_

/-- Rows over their root mean square, times the weight. -/
def normed (X : FVec Ideal S16384x2048 .f32) (q : FVec Ideal S16384 .f32) (nw : FVec Ideal S1x2048 .f32) : FVec Ideal S16384x2048 .f32 :=
  mulf (mulf X (broadcastInDim S16384x2048 ![0, 1] bcast_S16384x1_S16384x2048_0_1 (Host.rsqrt (addf (Host.divf (broadcastInDim S16384x1 ![0] bcast_S16384_S16384x1_0 q) (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 nw)

/-- The first matrix, unpacked. -/
def rowsU (w : IVec S1024x11264 32) : FVec Ideal S2048x11264 .bf16 :=
  shapeCast _ (transpose S1024x2x11264 [0, 2, 1] (bitcastToFloat (F := Ideal) .bf16 (Host.bitcastConvertNarrow S1024x11264x2 16 w splits_S1024x11264_w32_S1024x11264x2_w16)) transposes_S1024x11264x2_S1024x2x11264_0_2_1) shapeCasts_S1024x2x11264_S2048x11264

/-- The last matrix, unpacked. -/
def rowsD (w : IVec S2816x2048 32) : FVec Ideal S5632x2048 .bf16 :=
  shapeCast _ (transpose S2816x2x2048 [0, 2, 1] (bitcastToFloat (F := Ideal) .bf16 (Host.bitcastConvertNarrow S2816x2048x2 16 w splits_S2816x2048_w32_S2816x2048x2_w16)) transposes_S2816x2048x2_S2816x2x2048_0_2_1) shapeCasts_S2816x2x2048_S5632x2048

/-- The up-projection, after two rows of zeros. -/
def ups (h : FVec Ideal S16384x2048 .f32) (wu : FVec Ideal S2048x11264 .bf16) : FVec Ideal S16384x11264 .f32 :=
  Host.dotGeneral dot_S16384x2048_S2048x11264_S16384x11264_1_0_0_1_n_n none h (extf .f32 wu bitsLt_bf16_f32)

def padded (u : FVec Ideal S16384x11264 .f32) : FVec Ideal S16386x11264 .f32 :=
  pad S16386x11264 ![2, 0] ![0, 0] ![0, 0] u (sitofp .f32 (constantI S_ 32 0#32)) pads_S16384x11264_S16386x11264_200_000 h_S_

/-- The three taps. -/
def tapped (u : FVec Ideal S16386x11264 .f32) (cw : FVec Ideal S3x11264 .f32) (b : FVec Ideal S1x11264 .f32) : FVec Ideal S16384x11264 .f32 :=
  addf (addf (addf (broadcastInDim S16384x11264 ![0, 1] bcast_S1x11264_S16384x11264_0_1 b)
    (mulf (extractStridedSlice S16384x11264 ![0, 0] u slices_S16386x11264_S16384x11264_0_0) (broadcastInDim S16384x11264 ![0, 1] bcast_S1x11264_S16384x11264_0_1 (broadcastInDim S1x11264 ![1] bcast_S11264_S1x11264_1 (shapeCast _ (extractStridedSlice S1x11264 ![0, 0] cw slices_S3x11264_S1x11264_0_0) shapeCasts_S1x11264_S11264)))))
    (mulf (extractStridedSlice S16384x11264 ![1, 0] u slices_S16386x11264_S16384x11264_1_0) (broadcastInDim S16384x11264 ![0, 1] bcast_S1x11264_S16384x11264_0_1 (broadcastInDim S1x11264 ![1] bcast_S11264_S1x11264_1 (shapeCast _ (extractStridedSlice S1x11264 ![1, 0] cw slices_S3x11264_S1x11264_1_0) shapeCasts_S1x11264_S11264)))))
    (mulf (extractStridedSlice S16384x11264 ![2, 0] u slices_S16386x11264_S16384x11264_2_0) (broadcastInDim S16384x11264 ![0, 1] bcast_S1x11264_S16384x11264_0_1 (broadcastInDim S1x11264 ![1] bcast_S11264_S1x11264_1 (shapeCast _ (extractStridedSlice S1x11264 ![2, 0] cw slices_S3x11264_S1x11264_2_0) shapeCasts_S1x11264_S11264))))

/-- The gate's activation times the value. -/
def active (g v : FVec Ideal S16384x5632 .f32) : FVec Ideal S16384x5632 .f32 :=
  mulf (mulf g (mulf (broadcastInDim S16384x5632 ![] bcast_S_S16384x5632 (constant S_ .f32 0x3F000000#32)) (addf (broadcastInDim S16384x5632 ![] bcast_S_S16384x5632 (constant S_ .f32 0x3F800000#32))
    (Host.tanh (mulf (broadcastInDim S16384x5632 ![] bcast_S_S16384x5632 (constant S_ .f32 0x3F4C422A#32)) (addf g (mulf (broadcastInDim S16384x5632 ![] bcast_S_S16384x5632 (constant S_ .f32 0x3D372713#32)) (mulf (mulf g g) g)))))))) v

def gates (y : FVec Ideal S16384x11264 .f32) : FVec Ideal S16384x5632 .f32 := extractStridedSlice S16384x5632 ![0, 0] y slices_S16384x11264_S16384x5632_0_0
def vals (y : FVec Ideal S16384x11264 .f32) : FVec Ideal S16384x5632 .f32 := extractStridedSlice S16384x5632 ![0, 5632] y slices_S16384x11264_S16384x5632_0_5632

/-- The down-projection. -/
def downs (a : FVec Ideal S16384x5632 .f32) (wd : FVec Ideal S5632x2048 .bf16) : FVec Ideal S16384x2048 .f32 :=
  Host.dotGeneral dot_S16384x5632_S5632x2048_S16384x2048_1_0_0_1_n_n none a (extf .f32 wd bitsLt_bf16_f32)

/-- The taps of every row. -/
def hidden (X : FVec Ideal S16384x2048 .f32) (nw : FVec Ideal S1x2048 .f32) (wu : FVec Ideal S2048x11264 .bf16) (cw : FVec Ideal S3x11264 .f32) (b : FVec Ideal S1x11264 .f32) : FVec Ideal S16384x11264 .f32 :=
  tapped (padded (ups (normed X (sums (mulf X X)) nw) wu)) cw b

/-- The reference's result. -/
def result (X : FVec Ideal S16384x2048 .f32) (nw : FVec Ideal S1x2048 .f32) (wu : FVec Ideal S2048x11264 .bf16) (cw : FVec Ideal S3x11264 .f32) (b : FVec Ideal S1x11264 .f32) (wd : FVec Ideal S5632x2048 .bf16) : FVec Ideal S16384x2048 .f32 :=
  addf X (downs (active (gates (hidden X nw wu cw b)) (vals (hidden X nw wu cw b))) wd)

theorem res_eq (m : (ℓ : Loc nD τ sig) → Buf (Elt Ideal) ℓ) (c : Dev nD) :
    Value.res_out0 m c = result (m ((c.tc : Thread nD τ).loc main_arg0)) (m ((c.tc : Thread nD τ).loc main_arg1)) (rowsU (m ((c.tc : Thread nD τ).loc main_arg2))) (m ((c.tc : Thread nD τ).loc main_arg3)) (m ((c.tc : Thread nD τ).loc main_arg4)) (rowsD (m ((c.tc : Thread nD τ).loc main_arg5))) := by
  unfold Value.res_out0 Value.res_main_v61 rowsU rowsD result downs active gates vals hidden tapped padded ups normed sums
  rfl

theorem rowsU_at (w : IVec S1024x11264 32) (k : Fin 2048) (x : Fin 11264) : rowsU w (ix2 k x) = Words.rows (a := 1024) (b := 2048) rfl w k x := by
  pointwise [rowsU]
  exact Words.narrow_at (a := 1024) (n := 11264) w _ ⟨k.val / 2, by omega⟩ x ⟨k.val % 2, by omega⟩

theorem rowsD_at (w : IVec S2816x2048 32) (k : Fin 5632) (x : Fin 2048) : rowsD w (ix2 k x) = Words.rows (a := 2816) (b := 5632) rfl w k x := by
  pointwise [rowsD]
  exact Words.narrow_at (a := 2816) (n := 2048) w _ ⟨k.val / 2, by omega⟩ x ⟨k.val % 2, by omega⟩

theorem sums_at (s : FVec Ideal S16384x2048 .f32) (r : Fin 16384) : sums s (ix1 r) = ∑ x : Fin 2048, s (ix2 r x) :=
  Soft.reduce_rows s _ _ r

theorem normed_at (X : FVec Ideal S16384x2048 .f32) (q : FVec Ideal S16384 .f32) (nw : FVec Ideal S1x2048 .f32) (r : Fin 16384) (k : Fin 2048) :
    normed X q nw (ix2 r k) = X (ix2 r k) * Ideal.rsqrt (Ideal.div (q (ix1 r)) (Ideal.ofBits FTy.f32 1157627904#32) + Ideal.ofBits FTy.f32 897988541#32) * nw (ix2 0 k) := by
  pointwise [normed]

theorem ups_at (h : FVec Ideal S16384x2048 .f32) (wu : FVec Ideal S2048x11264 .bf16) (r : Fin 16384) (x : Fin 11264) :
    ups h wu (ix2 r x) = ∑ k : Fin 2048, h (ix2 r k) * wu (ix2 k x) := by
  pointwise [ups]

theorem padded_at (u : FVec Ideal S16384x11264 .f32) (s : Fin 16386) (x : Fin 11264) :
    padded u (ix2 s x) = if h : 2 ≤ s.val then u (ix2 ⟨s.val - 2, by omega⟩ x) else 0 := by
  have e : (FloatOps.sitofp (F := Ideal) FTy.f32 (0#32 : BitVec 32)) = (0 : EReal) := by
    show (((0#32 : BitVec 32).toInt : ℝ) : EReal) = 0
    simp
  pointwise [padded]
  by_cases h : 2 ≤ s.val
  · rw [dif_pos h, dif_pos ⟨h, by omega⟩]
  · rw [dif_neg h, dif_neg fun h' => h h'.1]
    exact e

theorem tapped_at (u : FVec Ideal S16386x11264 .f32) (cw : FVec Ideal S3x11264 .f32) (b : FVec Ideal S1x11264 .f32) (r : Fin 16384) (x : Fin 11264) :
    tapped u cw b (ix2 r x) = Kernel2Ideal.Ffn.conv3 (b (ix2 0 x)) (u (ix2 ⟨r.val, by omega⟩ x)) (cw (ix2 0 x)) (u (ix2 ⟨1 + r.val, by omega⟩ x)) (cw (ix2 1 x)) (u (ix2 ⟨2 + r.val, by omega⟩ x)) (cw (ix2 2 x)) := by
  pointwise [tapped]
  rfl

theorem active_at (g v : FVec Ideal S16384x5632 .f32) (i : S16384x5632.Idx) : active g v i = Kernel2Ideal.Ffn.gated (g i) (v i) := by
  pointwise [active]
  unfold Kernel2Ideal.Ffn.gated
  rw [← mul_assoc (g i), mul_comm (g i)]

theorem gates_at (y : FVec Ideal S16384x11264 .f32) (r : Fin 16384) (x : Fin 5632) : gates y (ix2 r x) = y (ix2 r ⟨x.val, by omega⟩) := by
  pointwise [gates]

theorem vals_at (y : FVec Ideal S16384x11264 .f32) (r : Fin 16384) (x : Fin 5632) : vals y (ix2 r x) = y (ix2 r ⟨5632 + x.val, by omega⟩) := by
  pointwise [vals]

theorem downs_at (a : FVec Ideal S16384x5632 .f32) (wd : FVec Ideal S5632x2048 .bf16) (r : Fin 16384) (d : Fin 2048) :
    downs a wd (ix2 r d) = ∑ x : Fin 5632, a (ix2 r x) * wd (ix2 x d) := by
  pointwise [downs]

section

variable (X : FVec Ideal S16384x2048 .f32) (nw : FVec Ideal S1x2048 .f32) (wu : FVec Ideal S2048x11264 .bf16) (cw : FVec Ideal S3x11264 .f32) (b : FVec Ideal S1x11264 .f32) (wd : FVec Ideal S5632x2048 .bf16)

theorem up_at (r : Fin 16384) (x : Fin 11264) :
    ups (normed X (sums (mulf X X)) nw) wu (ix2 r x) = Cert.Ffn.up (fun r k => X (ix2 r k)) (fun k => nw (ix2 0 k)) (fun k x => wu (ix2 k x)) r x := by
  rw [ups_at]
  refine Finset.sum_congr rfl fun k _ => ?_
  rw [normed_at, sums_at]
  rfl

theorem back_at (d : ℕ) (hd : d ≤ 2) (r : Fin 16384) (s : Fin 16386) (hs : s.val = 2 - d + r.val) (x : Fin 11264) :
    padded (ups (normed X (sums (mulf X X)) nw) wu) (ix2 s x) = Cert.Ffn.back (fun r k => X (ix2 r k)) (fun k => nw (ix2 0 k)) (fun k x => wu (ix2 k x)) d r x := by
  rw [padded_at]
  unfold Cert.Ffn.back
  by_cases h : d ≤ r.val
  · rw [if_pos h, dif_pos (by omega), up_at]
    exact congrArg (fun q => Cert.Ffn.up _ _ _ q x) (Fin.ext (by show s.val - 2 = r.val - d; omega))
  · rw [if_neg h, dif_neg (by omega)]

theorem hidden_at (r : Fin 16384) (x : Fin 11264) :
    hidden X nw wu cw b (ix2 r x) = Cert.Ffn.taps (fun r k => X (ix2 r k)) (fun k => nw (ix2 0 k)) (fun k x => wu (ix2 k x)) (fun k x => cw (ix2 k x)) (fun x => b (ix2 0 x)) r x := by
  unfold hidden
  rw [tapped_at, back_at X nw wu 2 (by omega) r _ (by show r.val = 2 - 2 + r.val; omega), back_at X nw wu 1 (by omega) r _ rfl, back_at X nw wu 0 (by omega) r _ rfl]
  rfl

theorem result_at (r : Fin 16384) (d : Fin 2048) :
    result X nw wu cw b wd (ix2 r d) = Cert.Ffn.res (fun r k => X (ix2 r k)) (fun k => nw (ix2 0 k)) (fun k x => wu (ix2 k x)) (fun k x => cw (ix2 k x)) (fun x => b (ix2 0 x)) (fun x d => wd (ix2 x d)) r d := by
  show X (ix2 r d) + downs _ wd (ix2 r d) = _
  rw [downs_at]
  refine congrArg (X (ix2 r d) + ·) (Finset.sum_congr rfl fun x _ => ?_)
  rw [active_at, gates_at, vals_at, hidden_at, hidden_at]
  rfl

end

/-- The result, with the packed matrices. -/
theorem packed_at (X : FVec Ideal S16384x2048 .f32) (nw : FVec Ideal S1x2048 .f32) (wu : IVec S1024x11264 32) (cw : FVec Ideal S3x11264 .f32) (b : FVec Ideal S1x11264 .f32) (wd : IVec S2816x2048 32) (r : Fin 16384) (d : Fin 2048) :
    result X nw (rowsU wu) cw b (rowsD wd) (ix2 r d)
      = Cert.Ffn.res (fun r k => X (ix2 r k)) (fun k => nw (ix2 0 k)) (Words.rows (a := 1024) rfl wu) (fun k x => cw (ix2 k x)) (fun x => b (ix2 0 x)) (Words.rows (a := 2816) rfl wd) r d := by
  rw [result_at]
  have e1 : (fun k x => rowsU wu (ix2 k x)) = Words.rows (a := 1024) (b := 2048) rfl wu := funext fun k => funext fun x => rowsU_at wu k x
  have e2 : (fun x d => rowsD wd (ix2 x d)) = Words.rows (a := 2816) (b := 5632) rfl wd := funext fun k => funext fun x => rowsD_at wd k x
  rw [e1, e2]

end Cert.Reference2Ideal.Ffn

end
-- ==== Proof.Pre.lean ====
/- What the precondition says of the projection and the table. -/
module

public import proofs.«01_k».proof.Defs
public import proofs.«01_k».proof.Proof.Match

@[expose] public section

noncomputable section

namespace Cert.Proof

open Idealize.ShloMosaic Idealize.ShloMosaic.TcCoe Idealize.SL.Sem

theorem pre_facts : Cert.Pre_finite.Facts where
  slices_S16384x6144_S16384x2048_0_0 := by decide
  bcast_S_S16384x2048 := by decide
  bcast_S_S1x16x513 := by decide

theorem real_of_abs_lt (x : EReal) (h : max x (-x) < ⊤) : ∃ a : ℝ, x = (a : EReal) := by
  induction x with
  | bot => simp at h
  | top => simp at h
  | coe a => exact ⟨a, rfl⟩

theorem inf_bf16 : Ideal.ofBits FTy.bf16 0x7F80#16 = ⊤ := by simp [Ideal.ofBits, Ideal.ieee]
theorem inf_f32 : Ideal.ofBits FTy.f32 0x7F800000#32 = ⊤ := by simp [Ideal.ofBits, Ideal.ieee]

theorem finite_of (X : FVec Ideal Pre_finite.S16384x6144 .bf16) (T : FVec Ideal Pre_finite.S1x16x513 .f32)
    (h1 : (@Pre_finite.fn pre_facts Ideal _ X T).1 = fun _ => 1#1) (h2 : (@Pre_finite.fn pre_facts Ideal _ X T).2 = fun _ => 1#1) :
    KernelIdeal.Tile.Finite X T := by
  refine ⟨fun r l hl => real_of_abs_lt _ ?_, fun h l => real_of_abs_lt _ ?_⟩
  · have := congrFun h1 (ix2 r ⟨l.val, hl⟩)
    unfold Pre_finite.fn at this
    pointwise at this
    rw [inf_bf16] at this
    by_contra hn
    rw [show FloatOps.absf (X (ix2 r l)) = max (X (ix2 r l)) (-(X (ix2 r l))) from rfl, decide_eq_false hn] at this
    exact absurd this (by decide)
  · have := congrFun h2 (ix3 0 h l)
    unfold Pre_finite.fn at this
    pointwise at this
    rw [inf_f32] at this
    by_contra hn
    rw [show FloatOps.absf (T (ix3 0 h l)) = max (T (ix3 0 h l)) (-(T (ix3 0 h l))) from rfl, decide_eq_false hn] at this
    exact absurd this (by decide)

end Cert.Proof

end
-- ==== Proof.Mix.lean ====
/- The closing projection of the mixers: what the call leaves in its array. -/
module

public import proofs.«01_k».proof.Proof.Gen.Kernel4Ideal.Value
public import proofs.«01_k».proof.Proof.Rows
public import proofs.«01_k».proof.Proof.Words

@[expose] public section

set_option maxRecDepth 16384

noncomputable section

namespace Cert.Mix

/-- A row plus two rows through the upper and the lower half of a matrix. -/
def res (X : Fin 16384 → Fin 2048 → EReal) (A B : Fin 16384 → Fin 1024 → EReal) (W : Fin 2048 → Fin 2048 → EReal) (r : Fin 16384) (d : Fin 2048) : EReal :=
  X r d + ∑ k : Fin 1024, A r k * W ⟨k.val, by omega⟩ d + ∑ k : Fin 1024, B r k * W ⟨1024 + k.val, by omega⟩ d

end Cert.Mix

namespace Cert.Kernel4Ideal.Mix

open Cert.Kernel4Ideal Cert.Kernel4Ideal.Gen Idealize.ShloMosaic Idealize.ShloMosaic.TcCoe Idealize.SL.Sem

/-- A half of the matrix, unpacked. -/
abbrev un (w : Vec Ideal S512x2048 .i32) : Fin 1024 → Fin 2048 → EReal := Words.rows (a := 512) rfl w

theorem pay_at (x : Vec Ideal S512x2048 .f32) (a b : Vec Ideal S512x1024 .bf16) (w w' : Vec Ideal S512x2048 .i32) (r : Fin 512) (d : Fin 2048) :
    k0_pay1 x a w b w' (ix2 r d) = x (ix2 r d) + ∑ k : Fin 1024, a (ix2 r k) * un w k d + ∑ k : Fin 1024, b (ix2 r k) * un w' k d := by
  pointwise [k0_pay1]
  exact congrArg₂ (· + ·) (congrArg₂ (· + ·) rfl (Finset.sum_congr rfl fun k _ => congrArg (a (ix2 r k) * ·) (Words.bitcast_at (a := 512) rfl w _ k d)))
    (Finset.sum_congr rfl fun k _ => congrArg (b (ix2 r k) * ·) (Words.bitcast_at (a := 512) rfl w' _ k d))

theorem out_at (x : Vec Ideal S512x2048 .f32) (a b : Vec Ideal S512x1024 .bf16) (w w' : Vec Ideal S512x2048 .i32) :
    out0_5 x a b w w' = k0_pay1 x a w b w' := by
  have hx : View.ld x r0_0 = x := Rows.ld_all (Val := Elt Ideal) (e := .f32) (M := 512) (N := 2048) x _
  have ha : View.ld a r0_1 = a := Rows.ld_all (Val := Elt Ideal) (e := .bf16) (M := 512) (N := 1024) a _
  have hb : View.ld b r0_1 = b := Rows.ld_all (Val := Elt Ideal) (e := .bf16) (M := 512) (N := 1024) b _
  have hw : View.ld w r0_0 = w := Rows.ld_all (Val := Elt Ideal) (e := .i32) (M := 512) (N := 2048) w _
  have hw' : View.ld w' r0_0 = w' := Rows.ld_all (Val := Elt Ideal) (e := .i32) (M := 512) (N := 2048) w' _
  unfold out0_5
  rw [hx, ha, hb, hw, hw']
  exact Rows.canon_all (Val := Elt Ideal) (e := .f32) (M := 512) (N := 2048) _ _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![t.val, 0] :=
  (by decide +kernel : ∀ t : Fin grid0.N, _)

theorem lt32 (t : Fin cfg0.N) : t.val < 32 := lt_of_lt_of_eq t.isLt (by decide)

abbrev argX : Vec Ideal S16384x2048 .f32 := m ((c : Thread nD τ).loc main_arg0)
abbrev argA : Vec Ideal S16384x1024 .bf16 := m ((c : Thread nD τ).loc main_arg1)
abbrev argB : Vec Ideal S16384x1024 .bf16 := m ((c : Thread nD τ).loc main_arg2)
abbrev argW : Vec Ideal S1024x2048 .i32 := m ((c : Thread nD τ).loc main_arg3)

theorem b0_at (t : Fin cfg0.N) (r : Fin 512) (d : Fin 2048) :
    iblk m c 0 t (ix2 r d) = argX m c (ix2 ⟨512 * t.val + r.val, by have := lt32 t; omega⟩ d) := by
  blk_point [iblk, V, idx t]

theorem b1_at (t : Fin cfg0.N) (r : Fin 512) (k : Fin 1024) :
    iblk m c 1 t (ix2 r k) = argA m c (ix2 ⟨512 * t.val + r.val, by have := lt32 t; omega⟩ k) := by
  blk_point [iblk, V, idx t]

theorem b2_at (t : Fin cfg0.N) (r : Fin 512) (k : Fin 1024) :
    iblk m c 2 t (ix2 r k) = argB m c (ix2 ⟨512 * t.val + r.val, by have := lt32 t; omega⟩ k) := by
  blk_point [iblk, V, idx t]

theorem b3_at (t : Fin cfg0.N) (k : Fin 512) (d : Fin 2048) : iblk m c 3 t (ix2 k d) = argW m c (ix2 ⟨k.val, by omega⟩ d) := by
  blk_point [iblk, V, idx t]

theorem b4_at (t : Fin cfg0.N) (k : Fin 512) (d : Fin 2048) : iblk m c 4 t (ix2 k d) = argW m c (ix2 ⟨512 + k.val, by omega⟩ d) := by
  blk_point [iblk, V, idx t]

/-- The upper half of the matrix, unpacked. -/
theorem u3_at (t : Fin cfg0.N) (k : Fin 1024) (d : Fin 2048) :
    un (iblk m c 3 t) k d = Words.rows (a := 1024) (b := 2048) rfl (argW m c) ⟨k.val, by omega⟩ d :=
  congrArg (fun v => Words.half v (k.val % 2)) (b3_at m c t _ d)

/-- The lower half of the matrix, unpacked. -/
theorem u4_at (t : Fin cfg0.N) (k : Fin 1024) (d : Fin 2048) :
    un (iblk m c 4 t) k d = Words.rows (a := 1024) (b := 2048) rfl (argW m c) ⟨1024 + k.val, by omega⟩ d := by
  show Words.half (iblk m c 4 t (ix2 ⟨k.val / 2, _⟩ d)) (k.val % 2) = Words.half (argW m c (ix2 ⟨(1024 + k.val) / 2, _⟩ d)) ((1024 + k.val) % 2)
  rw [b4_at]
  have e1 : 512 + k.val / 2 = (1024 + k.val) / 2 := by omega
  have e2 : k.val % 2 = (1024 + k.val) % 2 := by omega
  simp only [e1, e2]

/-- The array after the run. -/
def outArr : Vec Ideal S16384x2048 .f32 := fun y =>
  Cert.Mix.res (fun r d => argX m c (ix2 r d)) (fun r k => argA m c (ix2 r k)) (fun r k => argB m c (ix2 r k)) (Words.rows (a := 1024) rfl (argW m c)) (y 0) (y 1)

theorem block_at (t : Fin cfg0.N) (r : Fin 512) (d : Fin 2048) :
    out0_5 (iblk m c 0 t) (iblk m c 1 t) (iblk m c 2 t) (iblk m c 3 t) (iblk m c 4 t) (ix2 r d)
      = outArr m c (ix2 ⟨512 * t.val + r.val, by have := lt32 t; omega⟩ d) := by
  rw [out_at, pay_at]
  refine congrArg₂ (· + ·) (congrArg₂ (· + ·) (b0_at m c t r d) (Finset.sum_congr rfl fun k _ => ?_)) (Finset.sum_congr rfl fun k _ => ?_)
  · exact congrArg₂ (· * ·) (b1_at m c t r k) (u3_at m c t k d)
  · exact congrArg₂ (· * ·) (b2_at m c t r k) (u4_at m c t k d)

theorem out_eq : (dats m 0 c).arrAt 5 cfg0.N = outArr m c := by
  refine (dats m 0 c).arrAt_eq_of_covers 5 _ (by decide +kernel) fun t hf y => ?_
  blk_simp
  rw [after0_5]
  have ht := lt32 t
  have he : (win0_5.blk t).view.emb y = ix2 ⟨512 * t.val + (y 0).val, by have h : (y 0).val < 512 := (y 0).isLt; omega⟩ ⟨(y 1).val, (y 1).isLt⟩ := by
    funext a
    refine Fin.ext ?_
    match a with
    | ⟨0, _⟩ =>
      blk_point [idx t]
      exact congrArg (· + (y 0).val) (Nat.mul_comm t.val 512)
    | ⟨1, _⟩ =>
      blk_point [idx t]
      rfl
  refine (congrArg _ (Rows.eta (M := 512) (N := 2048) y)).trans ((block_at m c t (y 0) (y 1)).trans ?_)
  exact congrArg _ he.symm

end Cert.Kernel4Ideal.Mix

end
-- ==== Proof.MixRef.lean ====
/- The closing projection's reference at a row and a column. -/
module

public import proofs.«01_k».proof.Proof.Gen.Reference4Ideal.Run
public import proofs.«01_k».proof.Proof.Mix

@[expose] public section

set_option maxRecDepth 16384

noncomputable section

namespace Cert.Reference4Ideal.Mix

open Cert.Reference4Ideal Cert.Reference4Ideal.Gen Idealize.ShloMosaic Idealize.ShloMosaic.TcCoe Idealize.SL.Sem

/-- The matrix, unpacked. -/
def rowsW (w : IVec S1024x2048 32) : FVec Ideal S2048x2048 .bf16 :=
  shapeCast _ (transpose S1024x2x2048 [0, 2, 1] (bitcastToFloat (F := Ideal) .bf16 (Host.bitcastConvertNarrow S1024x2048x2 16 w splits_S1024x2048_w32_S1024x2048x2_w16)) transposes_S1024x2048x2_S1024x2x2048_0_2_1) shapeCasts_S1024x2x2048_S2048x2048

/-- The two mixers' rows, one after the other. -/
def joined (A B : FVec Ideal S16384x1024 .bf16) : FVec Ideal S16384x2048 .bf16 :=
  concatenate S16384x2048 1 [⟨S16384x1024, A⟩, ⟨S16384x1024, B⟩] concatenates_S16384x1024_S16384x1024_S16384x2048_d1

/-- The reference's result. -/
def result (X : FVec Ideal S16384x2048 .f32) (A B : FVec Ideal S16384x1024 .bf16) (w : IVec S1024x2048 32) : FVec Ideal S16384x2048 .f32 :=
  addf X (Host.dotGeneral dot_S16384x2048_S2048x2048_S16384x2048_1_0_0_1_n_n none (extf .f32 (joined A B) bitsLt_bf16_f32) (extf .f32 (rowsW w) bitsLt_bf16_f32))

theorem rowsW_at (w : IVec S1024x2048 32) (k : Fin 2048) (x : Fin 2048) : rowsW w (ix2 k x) = Words.rows (a := 1024) (b := 2048) rfl w k x := by
  pointwise [rowsW]
  exact Words.narrow_at (a := 1024) (n := 2048) w _ ⟨k.val / 2, by omega⟩ x ⟨k.val % 2, by omega⟩

theorem joined_low (A B : FVec Ideal S16384x1024 .bf16) (r : Fin 16384) (k : Fin 1024) : joined A B (ix2 r ⟨k.val, by omega⟩) = A (ix2 r k) := by
  pointwise [joined]

theorem joined_high (A B : FVec Ideal S16384x1024 .bf16) (r : Fin 16384) (k : Fin 1024) : joined A B (ix2 r ⟨1024 + k.val, by omega⟩) = B (ix2 r k) := by
  pointwise [joined]

theorem result_at (X : FVec Ideal S16384x2048 .f32) (A B : FVec Ideal S16384x1024 .bf16) (w : IVec S1024x2048 32) (r : Fin 16384) (d : Fin 2048) :
    result X A B w (ix2 r d) = Cert.Mix.res (fun r d => X (ix2 r d)) (fun r k => A (ix2 r k)) (fun r k => B (ix2 r k)) (Words.rows (a := 1024) rfl w) r d := by
  have e : result X A B w (ix2 r d) = X (ix2 r d) + ∑ k : Fin 2048, joined A B (ix2 r k) * rowsW w (ix2 k d) := by
    pointwise [result]
  rw [e]
  unfold Cert.Mix.res
  rw [add_assoc]
  refine congrArg (X (ix2 r d) + ·) ((Fin.sum_univ_add (a := 1024) (b := 1024) fun k => joined A B (ix2 r k) * rowsW w (ix2 k d)).trans ?_)
  refine congrArg₂ (· + ·) (Finset.sum_congr rfl fun k _ => ?_) (Finset.sum_congr rfl fun k _ => ?_)
  · exact congrArg₂ (· * ·) (joined_low A B r k) (rowsW_at w _ d)
  · exact congrArg₂ (· * ·) (joined_high A B r k) (rowsW_at w _ d)

end Cert.Reference4Ideal.Mix

end
-- ==== Proof.Ple.lean ====
/- The closing block: what the call leaves in its array. -/
module

public import proofs.«01_k».proof.Proof.Gen.Kernel3Ideal.Value
public import proofs.«01_k».proof.Proof.FfnPay

@[expose] public section

set_option maxRecDepth 16384

noncomputable section

namespace Cert.Ple

open Idealize.ShloMosaic Cert.Kernel2Ideal.Ffn

/-- A row plus its gated projection: `x` the row, `p` the row to project, `nw` the norm's weight, `W` the gate's matrix, `Q` the projection's. -/
def mixed (x : Fin 2048 → EReal) (p : Fin 256 → EReal) (nw : Fin 2048 → EReal) (W : Fin 2048 → Fin 2048 → EReal) (Q : Fin 256 → Fin 2048 → EReal) (d : Fin 2048) : EReal :=
  x d + Ideal.div 1 (1 + Ideal.exp (-∑ k, normAt x nw k * W k d)) * ∑ k, p k * Q k d

/-- The closing norm of such a row. -/
def res (x : Fin 2048 → EReal) (p : Fin 256 → EReal) (nw : Fin 2048 → EReal) (W : Fin 2048 → Fin 2048 → EReal) (Q : Fin 256 → Fin 2048 → EReal) (fw : Fin 2048 → EReal) (d : Fin 2048) : EReal :=
  normAt (mixed x p nw W Q) fw d

end Cert.Ple

namespace Cert.Kernel3Ideal.Ple

open Cert.Kernel3Ideal Cert.Kernel3Ideal.Gen Idealize.ShloMosaic Idealize.ShloMosaic.TcCoe Idealize.SL.Sem

/-- The gate's matrix, unpacked. -/
abbrev un (w : Vec Ideal S1024x2048 .i32) : Fin 2048 → Fin 2048 → EReal := Words.rows (a := 1024) rfl w

theorem pay_at (x : Vec Ideal S512x2048 .f32) (nw : Vec Ideal S1x2048 .f32) (w : Vec Ideal S1024x2048 .i32) (p : Vec Ideal S512x256 .f32) (q : Vec Ideal S256x2048 .bf16) (fw : Vec Ideal S1x2048 .f32) (r : Fin 512) (d : Fin 2048) :
    k0_pay1 x nw w p q fw (ix2 r d)
      = Cert.Ple.res (fun d => x (ix2 r d)) (fun k => p (ix2 r k)) (fun d => nw (ix2 0 d)) (un w) (fun k d => q (ix2 k d)) (fun d => fw (ix2 0 d)) d := by
  have e : (fun k d => Ideal.ofBits FTy.bf16 (bitcast S2048x2048 16 w bitcasts_S1024x2048_w32_S2048x2048_w16 (ix2 k d))) = un w :=
    funext fun k => funext fun d => Words.bitcast_at (a := 1024) rfl w _ k d
  pointwise [k0_pay1]
  rw [← e]
  rfl

theorem out_at (x : Vec Ideal S512x2048 .f32) (p : Vec Ideal S512x256 .f32) (nw : Vec Ideal S1x2048 .f32) (w : Vec Ideal S1024x2048 .i32) (q : Vec Ideal S256x2048 .bf16) (fw : Vec Ideal S1x2048 .f32) :
    out0_6 x p nw w q fw = k0_pay1 x nw w p q fw := by
  have hx : View.ld x r0_0 = x := Rows.ld_all (Val := Elt Ideal) (e := .f32) (M := 512) (N := 2048) x _
  have hn : View.ld nw r0_1 = nw := Rows.ld_all (Val := Elt Ideal) (e := .f32) (M := 1) (N := 2048) nw _
  have hf : View.ld fw r0_1 = fw := Rows.ld_all (Val := Elt Ideal) (e := .f32) (M := 1) (N := 2048) fw _
  have hw : View.ld w r0_2 = w := Rows.ld_all (Val := Elt Ideal) (e := .i32) (M := 1024) (N := 2048) w _
  have hp : View.ld p r0_3 = p := Rows.ld_all (Val := Elt Ideal) (e := .f32) (M := 512) (N := 256) p _
  have hq : View.ld q r0_4 = q := Rows.ld_all (Val := Elt Ideal) (e := .bf16) (M := 256) (N := 2048) q _
  unfold out0_6
  rw [hx, hn, hf, hw, hp, hq]
  exact Rows.canon_all (Val := Elt Ideal) (e := .f32) (M := 512) (N := 2048) _ _ _

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0] :=
  (by decide +kernel : ∀ t : Fin grid0.N, _)

theorem lt32 (t : Fin cfg0.N) : t.val < 32 := lt_of_lt_of_eq t.isLt (by decide)

abbrev argX : Vec Ideal S16384x2048 .f32 := m ((c : Thread nD τ).loc main_arg0)
abbrev argP : Vec Ideal S16384x256 .f32 := m ((c : Thread nD τ).loc main_arg1)
abbrev argN : Vec Ideal S1x2048 .f32 := m ((c : Thread nD τ).loc main_arg2)
abbrev argW : Vec Ideal S1024x2048 .i32 := m ((c : Thread nD τ).loc main_arg3)
abbrev argQ : Vec Ideal S256x2048 .bf16 := m ((c : Thread nD τ).loc main_arg4)
abbrev argF : Vec Ideal S1x2048 .f32 := m ((c : Thread nD τ).loc main_arg5)

theorem b0_at (t : Fin cfg0.N) (r : Fin 512) (d : Fin 2048) :
    iblk m c 0 t (ix2 r d) = argX m c (ix2 ⟨512 * t.val + r.val, by have := lt32 t; omega⟩ d) := by
  blk_point [iblk, V, idx t]

theorem b1_at (t : Fin cfg0.N) (r : Fin 512) (k : Fin 256) :
    iblk m c 1 t (ix2 r k) = argP m c (ix2 ⟨512 * t.val + r.val, by have := lt32 t; omega⟩ k) := by
  blk_point [iblk, V, idx t]

theorem b2_at (t : Fin cfg0.N) (r : Fin 1) (d : Fin 2048) : iblk m c 2 t (ix2 r d) = argN m c (ix2 r d) := by
  blk_point [iblk, V, idx t]

theorem b3_at (t : Fin cfg0.N) (k : Fin 1024) (d : Fin 2048) : iblk m c 3 t (ix2 k d) = argW m c (ix2 k d) := by
  blk_point [iblk, V, idx t]

theorem b4_at (t : Fin cfg0.N) (k : Fin 256) (d : Fin 2048) : iblk m c 4 t (ix2 k d) = argQ m c (ix2 k d) := by
  blk_point [iblk, V, idx t]

theorem b5_at (t : Fin cfg0.N) (r : Fin 1) (d : Fin 2048) : iblk m c 5 t (ix2 r d) = argF m c (ix2 r d) := by
  blk_point [iblk, V, idx t]

/-- The array after the run. -/
def outArr : Vec Ideal S16384x2048 .f32 := fun y =>
  Cert.Ple.res (fun d => argX m c (ix2 (y 0) d)) (fun k => argP m c (ix2 (y 0) k)) (fun d => argN m c (ix2 0 d)) (Words.rows (a := 1024) rfl (argW m c)) (fun k d => argQ m c (ix2 k d)) (fun d => argF m c (ix2 0 d)) (y 1)

theorem block_at (t : Fin cfg0.N) (r : Fin 512) (d : Fin 2048) :
    out0_6 (iblk m c 0 t) (iblk m c 1 t) (iblk m c 2 t) (iblk m c 3 t) (iblk m c 4 t) (iblk m c 5 t) (ix2 r d)
      = outArr m c (ix2 ⟨512 * t.val + r.val, by have := lt32 t; omega⟩ d) := by
  have h3 : iblk m c 3 t = argW m c := Rows.ext_rows (M := 1024) (N := 2048) fun k d => b3_at m c t k d
  rw [out_at, pay_at, h3]
  have h0 := funext fun d => b0_at m c t r d
  have h1 := funext fun k => b1_at m c t r k
  have h2 := funext fun d => b2_at m c t 0 d
  have h4 := funext fun k => funext fun d => b4_at m c t k d
  have h5 := funext fun d => b5_at m c t 0 d
  rw [h0, h1, h2, h4, h5]
  rfl

theorem out_eq : (dats m 0 c).arrAt 6 cfg0.N = outArr m c := by
  refine (dats m 0 c).arrAt_eq_of_covers 6 _ (by decide +kernel) fun t hf y => ?_
  blk_simp
  rw [after0_6]
  have ht := lt32 t
  have he : (win0_6.blk t).view.emb y = ix2 ⟨512 * t.val + (y 0).val, by have h : (y 0).val < 512 := (y 0).isLt; omega⟩ ⟨(y 1).val, (y 1).isLt⟩ := by
    funext a
    refine Fin.ext ?_
    match a with
    | ⟨0, _⟩ =>
      blk_point [idx t]
      exact congrArg (· + (y 0).val) (Nat.mul_comm t.val 512)
    | ⟨1, _⟩ =>
      blk_point [idx t]
      rfl
  refine (congrArg _ (Rows.eta (M := 512) (N := 2048) y)).trans ((block_at m c t (y 0) (y 1)).trans ?_)
  exact congrArg _ he.symm

end Cert.Kernel3Ideal.Ple

end
-- ==== Proof.PleRef.lean ====
/- The closing block's reference at a row and a column. -/
module

public import proofs.«01_k».proof.Proof.Gen.Reference3Ideal.Run
public import proofs.«01_k».proof.Proof.FfnRef
public import proofs.«01_k».proof.Proof.Ple

@[expose] public section

set_option maxRecDepth 16384

noncomputable section

namespace Cert.Reference3Ideal.Ple

open Cert.Reference3Ideal Cert.Reference3Ideal.Gen Idealize.ShloMosaic Idealize.ShloMosaic.TcCoe Idealize.SL.Sem
open Cert.Reference2Ideal.Ffn (sums normed sums_at normed_at)

/-- The gate's matrix, unpacked. -/
def rowsW (w : IVec S1024x2048 32) : FVec Ideal S2048x2048 .bf16 :=
  shapeCast _ (transpose S1024x2x2048 [0, 2, 1] (bitcastToFloat (F := Ideal) .bf16 (Host.bitcastConvertNarrow S1024x2048x2 16 w splits_S1024x2048_w32_S1024x2048x2_w16)) transposes_S1024x2048x2_S1024x2x2048_0_2_1) shapeCasts_S1024x2x2048_S2048x2048

/-- Every entry one. -/
def ones : FVec Ideal S16384x2048 .f32 := broadcastInDim S16384x2048 ![] bcast_S_S16384x2048 (constant S_ .f32 0x3F800000#32)

/-- The gate: one over one plus the exponential of the negated product. -/
def gate (h : FVec Ideal S16384x2048 .f32) (W : FVec Ideal S2048x2048 .bf16) : FVec Ideal S16384x2048 .f32 :=
  Host.divf ones (addf ones (Host.exp (Host.negf (Host.dotGeneral dot_S16384x2048_S2048x2048_S16384x2048_1_0_0_1_n_n none h (extf .f32 W bitsLt_bf16_f32)))))

/-- The projection. -/
def projected (p : FVec Ideal S16384x256 .f32) (Q : FVec Ideal S256x2048 .bf16) : FVec Ideal S16384x2048 .f32 :=
  Host.dotGeneral dot_S16384x256_S256x2048_S16384x2048_1_0_0_1_n_n none p (extf .f32 Q bitsLt_bf16_f32)

/-- The rows plus their gated projection. -/
def summed (X : FVec Ideal S16384x2048 .f32) (p : FVec Ideal S16384x256 .f32) (nw : FVec Ideal S1x2048 .f32) (W : FVec Ideal S2048x2048 .bf16) (Q : FVec Ideal S256x2048 .bf16) : FVec Ideal S16384x2048 .f32 :=
  addf X (mulf (gate (normed X (sums (mulf X X)) nw) W) (projected p Q))

/-- The reference's result. -/
def result (X : FVec Ideal S16384x2048 .f32) (p : FVec Ideal S16384x256 .f32) (nw : FVec Ideal S1x2048 .f32) (W : FVec Ideal S2048x2048 .bf16) (Q : FVec Ideal S256x2048 .bf16) (fw : FVec Ideal S1x2048 .f32) : FVec Ideal S16384x2048 .f32 :=
  normed (summed X p nw W Q) (sums (mulf (summed X p nw W Q) (summed X p nw W Q))) fw

theorem res_eq (m : (ℓ : Loc nD τ sig) → Buf (Elt Ideal) ℓ) (c : Dev nD) :
    Value.res_out0 m c = result (m ((c.tc : Thread nD τ).loc main_arg0)) (m ((c.tc : Thread nD τ).loc main_arg1)) (m ((c.tc : Thread nD τ).loc main_arg2)) (rowsW (m ((c.tc : Thread nD τ).loc main_arg3))) (m ((c.tc : Thread nD τ).loc main_arg4)) (m ((c.tc : Thread nD τ).loc main_arg5)) := by
  unfold Value.res_out0 Value.res_main_v38 result summed projected gate ones rowsW normed sums
  rfl

theorem rowsW_at (w : IVec S1024x2048 32) (k : Fin 2048) (x : Fin 2048) : rowsW w (ix2 k x) = Words.rows (a := 1024) (b := 2048) rfl w k x := by
  pointwise [rowsW]
  exact Words.narrow_at (a := 1024) (n := 2048) w _ ⟨k.val / 2, by omega⟩ x ⟨k.val % 2, by omega⟩

theorem norm_at (X : FVec Ideal S16384x2048 .f32) (nw : FVec Ideal S1x2048 .f32) (r : Fin 16384) (k : Fin 2048) :
    normed X (sums (mulf X X)) nw (ix2 r k) = Kernel2Ideal.Ffn.normAt (fun d => X (ix2 r d)) (fun d => nw (ix2 0 d)) k := by
  rw [normed_at, sums_at]
  rfl

theorem gate_at (h : FVec Ideal S16384x2048 .f32) (W : FVec Ideal S2048x2048 .bf16) (r : Fin 16384) (d : Fin 2048) :
    gate h W (ix2 r d) = Ideal.div 1 (1 + Ideal.exp (-∑ k : Fin 2048, h (ix2 r k) * W (ix2 k d))) := by
  pointwise [gate, ones]

theorem projected_at (p : FVec Ideal S16384x256 .f32) (Q : FVec Ideal S256x2048 .bf16) (r : Fin 16384) (d : Fin 2048) :
    projected p Q (ix2 r d) = ∑ k : Fin 256, p (ix2 r k) * Q (ix2 k d) := by
  pointwise [projected]

theorem summed_at (X : FVec Ideal S16384x2048 .f32) (p : FVec Ideal S16384x256 .f32) (nw : FVec Ideal S1x2048 .f32) (w : IVec S1024x2048 32) (Q : FVec Ideal S256x2048 .bf16) (r : Fin 16384) (d : Fin 2048) :
    summed X p nw (rowsW w) Q (ix2 r d)
      = Cert.Ple.mixed (fun d => X (ix2 r d)) (fun k => p (ix2 r k)) (fun d => nw (ix2 0 d)) (Words.rows (a := 1024) rfl w) (fun k d => Q (ix2 k d)) d := by
  have e : summed X p nw (rowsW w) Q (ix2 r d) = X (ix2 r d) + gate (normed X (sums (mulf X X)) nw) (rowsW w) (ix2 r d) * projected p Q (ix2 r d) := by
    pointwise [summed]
  rw [e, gate_at, projected_at]
  have hs : ∑ k : Fin 2048, normed X (sums (mulf X X)) nw (ix2 r k) * rowsW w (ix2 k d)
      = ∑ k : Fin 2048, Kernel2Ideal.Ffn.normAt (fun d => X (ix2 r d)) (fun d => nw (ix2 0 d)) k * Words.rows (a := 1024) (b := 2048) rfl w k d :=
    Finset.sum_congr rfl fun k _ => congrArg₂ (· * ·) (norm_at X nw r k) (rowsW_at w k d)
  rw [hs]
  rfl

theorem result_at (X : FVec Ideal S16384x2048 .f32) (p : FVec Ideal S16384x256 .f32) (nw : FVec Ideal S1x2048 .f32) (w : IVec S1024x2048 32) (Q : FVec Ideal S256x2048 .bf16) (fw : FVec Ideal S1x2048 .f32) (r : Fin 16384) (d : Fin 2048) :
    result X p nw (rowsW w) Q fw (ix2 r d)
      = Cert.Ple.res (fun d => X (ix2 r d)) (fun k => p (ix2 r k)) (fun d => nw (ix2 0 d)) (Words.rows (a := 1024) rfl w) (fun k d => Q (ix2 k d)) (fun d => fw (ix2 0 d)) d := by
  unfold result
  rw [norm_at]
  have hs := funext fun d => summed_at X p nw w Q r d
  rw [hs]
  rfl

end Cert.Reference3Ideal.Ple

end
-- ==== Proof.InRun.lean ====
module

public import proofs.«01_k».proof.Proof.Gen.Kernel5Ideal.Launch
public import proofs.«01_k».proof.Proof.Gen.Kernel5Ideal.Skeleton
public import proofs.«01_k».proof.Proof.Gen.Kernel5Ideal.Points
public import proofs.«01_k».proof.Proof.Gen.Kernel5Ideal.Frame
public import Idealize.ShloMosaic.Lib.Pipeline.FrameBody
public import Idealize.ShloMosaic.Lib.Pipeline.TableIdle
public import Idealize.ShloMosaic.Lib.Claim
public import Idealize.ShloMosaic.Lib.Ring
public import Idealize.ShloMosaic.Lib.Tactic
public import Idealize.ShloMosaic.Lib.WordCmp

/-!
The run of the input projection. At the first column tile of a tile of rows the body normalizes the rows, keeps them,
writes the gates of all of them and the first columns of the projection; at the others it multiplies the rows it kept.
The gates' array is written back at the last column tile, where its buffer still holds what the first left.
-/

@[expose] public section

set_option maxRecDepth 16384

noncomputable section

namespace Cert.Kernel5Ideal.Proj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The rectangles -/

/-- The four quarters of a tile of 1024 rows of the hidden states. -/
abbrev xa : Rect S1024x2048 := Rect.unit (s := S1024x2048) ![0, 0] S256x2048.size inb_S1024x2048_S256x2048_0_0
abbrev xb : Rect S1024x2048 := Rect.unit (s := S1024x2048) ![256, 0] S256x2048.size inb_S1024x2048_S256x2048_256_0
abbrev xc : Rect S1024x2048 := Rect.unit (s := S1024x2048) ![512, 0] S256x2048.size inb_S1024x2048_S256x2048_512_0
abbrev xd : Rect S1024x2048 := Rect.unit (s := S1024x2048) ![768, 0] S256x2048.size inb_S1024x2048_S256x2048_768_0
/-- The four quarters of a tile of the gates. -/
abbrev ga : Rect S1024x512 := Rect.unit (s := S1024x512) ![0, 0] S256x512.size inb_S1024x512_S256x512_0_0
abbrev gb : Rect S1024x512 := Rect.unit (s := S1024x512) ![256, 0] S256x512.size inb_S1024x512_S256x512_256_0
abbrev gc : Rect S1024x512 := Rect.unit (s := S1024x512) ![512, 0] S256x512.size inb_S1024x512_S256x512_512_0
abbrev gd : Rect S1024x512 := Rect.unit (s := S1024x512) ![768, 0] S256x512.size inb_S1024x512_S256x512_768_0
/-- The four quarters of a tile of the projection. -/
abbrev pa : Rect S1024x1024 := Rect.unit (s := S1024x1024) ![0, 0] S256x1024.size inb_S1024x1024_S256x1024_0_0
abbrev pb : Rect S1024x1024 := Rect.unit (s := S1024x1024) ![256, 0] S256x1024.size inb_S1024x1024_S256x1024_256_0
abbrev pc : Rect S1024x1024 := Rect.unit (s := S1024x1024) ![512, 0] S256x1024.size inb_S1024x1024_S256x1024_512_0
abbrev pd : Rect S1024x1024 := Rect.unit (s := S1024x1024) ![768, 0] S256x1024.size inb_S1024x1024_S256x1024_768_0
/-- Whole buffers. -/
abbrev wn : Rect S1x2048 := Rect.unit (s := S1x2048) ![0, 0] S1x2048.size inb_S1x2048_S1x2048_0_0
abbrev ww : Rect S1024x1024 := Rect.unit (s := S1024x1024) ![0, 0] S1024x1024.size inb_S1024x1024_S1024x1024_0_0
abbrev wl : Rect S128x2048 := Rect.unit (s := S128x2048) ![0, 0] S128x2048.size inb_S128x2048_S128x2048_0_0
abbrev wu : Rect S128x512 := Rect.unit (s := S128x512) ![0, 0] S128x512.size inb_S128x512_S128x512_0_0
abbrev wb : Rect S1x512 := Rect.unit (s := S1x512) ![0, 0] S1x512.size inb_S1x512_S1x512_0_0
abbrev wh : Rect S1024x2048 := Rect.unit (s := S1024x2048) ![0, 0] S1024x2048.size inb_S1024x2048_S1024x2048_0_0

/-! ## What the body leaves -/

/-- The normalized rows of a tile. -/
def hid (x0 : Vec F S1024x2048 .f32) (x1 : Vec F S1x2048 .f32) : Vec F S1024x2048 .bf16 :=
  View.canon [⟨xd, k0_pay24 (k0_pay21 (View.ld x0 xd)) (k0_pay22 (View.ld x1 wn))⟩,
    ⟨xc, k0_pay16 (View.ld x0 xc) (View.ld x1 wn)⟩,
    ⟨xb, k0_pay7 (View.ld x0 xb) (View.ld x1 wn)⟩,
    ⟨xa, k0_pay3 (View.ld x0 xa) (View.ld x1 wn)⟩]

/-- The gates of a tile. -/
def gates (x0 : Vec F S1024x2048 .f32) (x1 : Vec F S1x2048 .f32) (x3 : Vec F S128x2048 .bf16) (x4 : Vec F S128x512 .bf16) (x5 : Vec F S1x512 .f32) : Vec F S1024x512 .f32 :=
  View.canon [⟨gd, k0_pay25 (k0_pay21 (View.ld x0 xd)) (k0_pay22 (View.ld x1 wn)) (View.ld x3 wl) (View.ld x4 wu) (View.ld x5 wb)⟩,
    ⟨gc, k0_pay18 (k0_pay17 (View.ld x0 xc) (View.ld x1 wn) (View.ld x3 wl)) (View.ld x4 wu) (View.ld x5 wb)⟩,
    ⟨gb, k0_pay12 (k0_pay9 (View.ld x0 xb) (View.ld x1 wn) (View.ld x3 wl) (View.ld x4 wu) (View.ld x5 wb)) (k0_pay10 (View.ld x0 xb) (View.ld x1 wn) (View.ld x3 wl) (View.ld x4 wu) (View.ld x5 wb)) (k0_pay11 (F := F))⟩,
    ⟨ga, k0_pay4 (View.ld x0 xa) (View.ld x1 wn) (View.ld x3 wl) (View.ld x4 wu) (View.ld x5 wb)⟩]

/-- The first column tile of the projection. -/
def firstTile (x0 : Vec F S1024x2048 .f32) (x1 : Vec F S1x2048 .f32) (x2 : Vec F S1024x1024 .i32) : Vec F S1024x1024 .bf16 :=
  View.canon [⟨pd, k0_pay27 (k0_pay21 (View.ld x0 xd)) (k0_pay22 (View.ld x1 wn)) (View.ld x2 ww)⟩,
    ⟨pc, k0_pay26 (k0_pay20 (k0_pay15 (View.ld x0 xc) (View.ld x1 wn)) (View.ld x2 ww))⟩,
    ⟨pb, k0_pay19 (k0_pay14 (k0_pay6 (View.ld x0 xb) (View.ld x1 wn)) (View.ld x2 ww))⟩,
    ⟨pa, k0_pay13 (k0_pay5 (k0_pay2 (View.ld x0 xa) (View.ld x1 wn)) (View.ld x2 ww))⟩]

/-- A later column tile, from the rows kept. -/
def nextTile (h : Vec F S1024x2048 .bf16) (x2 : Vec F S1024x1024 .i32) : Vec F S1024x1024 .bf16 :=
  View.canon [⟨ww, k0_pay1 (View.ld h wh) (View.ld x2 ww)⟩]

theorem cover_hid (p q r s : Vec F S256x2048 .bf16) (y : S1024x2048.Idx) :
    ∃ pc ∈ ([⟨xd, p⟩, ⟨xc, q⟩, ⟨xb, r⟩, ⟨xa, s⟩] : List (View.Piece (Elt F) S1024x2048 .bf16)), y ∈ pc.1.set :=
  View.cover_of_tiled [⟨xd, p⟩, ⟨xc, q⟩, ⟨xb, r⟩, ⟨xa, s⟩] S256x2048.size (by rfl) y

theorem cover_gates (p q r s : Vec F S256x512 .f32) (y : S1024x512.Idx) :
    ∃ pc ∈ ([⟨gd, p⟩, ⟨gc, q⟩, ⟨gb, r⟩, ⟨ga, s⟩] : List (View.Piece (Elt F) S1024x512 .f32)), y ∈ pc.1.set :=
  View.cover_of_tiled [⟨gd, p⟩, ⟨gc, q⟩, ⟨gb, r⟩, ⟨ga, s⟩] S256x512.size (by rfl) y

theorem cover_first (p q r s : Vec F S256x1024 .bf16) (y : S1024x1024.Idx) :
    ∃ pc' ∈ ([⟨pd, p⟩, ⟨pc, q⟩, ⟨pb, r⟩, ⟨pa, s⟩] : List (View.Piece (Elt F) S1024x1024 .bf16)), y ∈ pc'.1.set :=
  View.cover_of_tiled [⟨pd, p⟩, ⟨pc, q⟩, ⟨pb, r⟩, ⟨pa, s⟩] S256x1024.size (by rfl) y

theorem cover_next (p : Vec F S1024x1024 .bf16) (y : S1024x1024.Idx) :
    ∃ pc' ∈ ([⟨ww, p⟩] : List (View.Piece (Elt F) S1024x1024 .bf16)), y ∈ pc'.1.set :=
  View.cover_of_tiled [⟨ww, p⟩] S1024x1024.size (by rfl) y

/-! ## The body's runs -/

set_option maxHeartbeats 4000000 in
/-- The body at a first column tile. -/
theorem sound_first (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1024x1024 .i32) (harg4 : arg4.IsWhole) (arg5 : Memref sig .tc .vmem S128x2048 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1024x512 .f32) (harg9 : arg9.IsWhole) (arg10 : Memref sig .tc .vmem S1024x2048 .bf16) (harg10 : arg10.IsWhole) (hc1 : k0_cond1 i = 1#1) (hc2 : ¬ k0_cond2 i = 1#1)
    (x0 : Vec F S1024x2048 .f32) (x1 : Vec F S1x2048 .f32) (x2 : Vec F S1024x1024 .i32) (x3 : Vec F S128x2048 .bf16) (x4 : Vec F S128x512 .bf16) (x5 : Vec F S1x512 .f32) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (firstTile x0 x1 x2) ∗ owns (c : Thread nD τ) arg9 fullShare (gates x0 x1 x3 x4 x5) ∗ owns (c : Thread nD τ) arg10 fullShare (hid x0 x1)) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_first _ _ _ _)
  isplitl [H7]
  · iexists _; isplitr
    swap; · iexact H7
    ipureintro
    exact View.read_writes_eq_canon _ _ _ (cover_gates _ _ _ _)
  iexists _; isplitr
  swap; · iexact H8
  ipureintro
  exact View.read_writes_eq_canon _ _ _ (cover_hid _ _ _ _)

set_option maxHeartbeats 4000000 in
/-- The body at a later column tile. -/
theorem sound_next (c : Dev nD) (E : Set ℕ) (i : grid0.Coords) (arg2 : Memref sig .tc .vmem S1024x2048 .f32) (harg2 : arg2.IsWhole) (arg3 : Memref sig .tc .vmem S1x2048 .f32) (harg3 : arg3.IsWhole) (arg4 : Memref sig .tc .vmem S1024x1024 .i32) (harg4 : arg4.IsWhole) (arg5 : Memref sig .tc .vmem S128x2048 .bf16) (harg5 : arg5.IsWhole) (arg6 : Memref sig .tc .vmem S128x512 .bf16) (harg6 : arg6.IsWhole) (arg7 : Memref sig .tc .vmem S1x512 .f32) (harg7 : arg7.IsWhole) (arg8 : Memref sig .tc .vmem S1024x1024 .bf16) (harg8 : arg8.IsWhole) (arg9 : Memref sig .tc .vmem S1024x512 .f32) (harg9 : arg9.IsWhole) (arg10 : Memref sig .tc .vmem S1024x2048 .bf16) (harg10 : arg10.IsWhole) (hc1 : ¬ k0_cond1 i = 1#1) (hc2 : k0_cond2 i = 1#1)
    (x0 : Vec F S1024x2048 .f32) (x1 : Vec F S1x2048 .f32) (x2 : Vec F S1024x1024 .i32) (x3 : Vec F S128x2048 .bf16) (x4 : Vec F S128x512 .bf16) (x5 : Vec F S1x512 .f32) (x7 : Vec F S1024x512 .f32) (h : Vec F S1024x2048 .bf16) (K : PUnit → sProp (MT nD τ sig Unit (Elt F) ℕ (UR sig nD τ) ℕ)) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare x7 ∗ owns (c : Thread nD τ) arg10 fullShare h
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (nextTile h x2) ∗ owns (c : Thread nD τ) arg9 fullShare x7 ∗ owns (c : Thread nD τ) arg10 fullShare h) -∗ K ⟨⟩))
      ⊢ wp frame (wpE (defs₀ (F := F)) Variants.none c none) E (cc0_inproj i arg2 harg2 arg3 harg3 arg4 harg4 arg5 harg5 arg6 harg6 arg7 harg7 arg8 harg8 arg9 harg9 arg10 harg10) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, Hk⟩
  subst hf0 hf1 hf2 hf3 hf4 hf5 hf7 hf8
  sl_exec (disch := first | sl_exact hc1 | sl_exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_next _)
  isplitl [H7]
  · iexists f7; isplitr; · ipureintro; rfl
    iexact H7
  iexists f8; isplitr; · ipureintro; rfl
  iexact H8

/-! ## The conditions and the schedule -/

theorem cond_first : ∀ t : Fin cfg0.N, k0_cond1 (grid0.coords t) = 1#1 ↔ t.val % 6 = 0 :=
  (fun t => by
    have ht : t.val < 96 := Nat.lt_of_lt_of_eq t.isLt N_0
    have e1 : (grid0.coords t 1).val = t.val / 1 % 6 := Pipeline.Grid.coords_val t 1 (by decide) rfl
    simp only [k0_cond1, e1]
    word_cmp : ∀ t : Fin grid0.N, k0_cond1 (grid0.coords t) = 1#1 ↔ t.val % 6 = 0)

theorem cond_next : ∀ t : Fin cfg0.N, k0_cond2 (grid0.coords t) = 1#1 ↔ ¬ t.val % 6 = 0 :=
  (fun t => by
    have ht : t.val < 96 := Nat.lt_of_lt_of_eq t.isLt N_0
    have e1 : (grid0.coords t 1).val = t.val / 1 % 6 := Pipeline.Grid.coords_val t 1 (by decide) rfl
    simp only [k0_cond2, e1]
    word_cmp : ∀ t : Fin grid0.N, k0_cond2 (grid0.coords t) = 1#1 ↔ ¬ t.val % 6 = 0)

theorem live_6 (t : Fin cfg0.N) : cfg0.idle 6 (grid0.coords t) = false := by
  show (!(k0_cond1 (grid0.coords t) == 1#1) && !(k0_cond2 (grid0.coords t) == 1#1)) = false
  by_cases h : t.val % 6 = 0
  · rw [(cond_first t).mpr h]; rfl
  · rw [(cond_next t).mpr h]; exact Bool.and_false _

theorem live_7 (t : Fin cfg0.N) (h : t.val % 6 = 0) : cfg0.idle 7 (grid0.coords t) = false := by
  show (!(k0_cond1 (grid0.coords t) == 1#1)) = false
  rw [(cond_first t).mpr h]; rfl

theorem idle_7 (t : Fin cfg0.N) (h : ¬ t.val % 6 = 0) : cfg0.idle 7 (grid0.coords t) = true := by
  show (!(k0_cond1 (grid0.coords t) == 1#1)) = true
  rw [beq_eq_false_iff_ne.mpr (fun e => h ((cond_first t).mp e))]; rfl

/-- The gates' buffer holds something the body stored except at a first column tile. -/
theorem fresh_7 (n : ℕ) (hn : n ≤ cfg0.N) : cfg0.fresh 7 n = decide (n % 6 = 0) :=
  Pipeline.Cfg.fresh_tab cfg0 7 (fun n => decide (n % 6 = 0)) rfl (fun t => by
    show decide ((t.val + 1) % 6 = 0) = ((cfg0.win 7).flush t || (cfg0.idle 7 (grid0.coords t) && decide (t.val % 6 = 0)))
    by_cases h5 : t.val % 6 = 5
    · rw [(flush0_7 t).mpr h5, Bool.true_or, decide_eq_true_iff]; omega
    · rw [Bool.eq_false_iff.mpr (fun h => h5 ((flush0_7 t).mp h)), Bool.false_or]
      by_cases h0 : t.val % 6 = 0
      · rw [live_7 t h0, Bool.false_and, decide_eq_false_iff_not]; omega
      · rw [decide_eq_false h0, Bool.and_false, decide_eq_false_iff_not]; omega) n hn

/-! ## The proof data -/

abbrev keep : Memref sig .tc .vmem S1024x2048 .bf16 := Memref.whole cc0_scratch0

/-- The point before. -/
abbrev prev (t : Fin cfg0.N) : Fin cfg0.N := ⟨t.val - 1, Nat.lt_of_le_of_lt (Nat.sub_le _ _) t.isLt⟩

/-- What is known of the rows kept: before the first point nothing, later that they are those of the tile before. -/
def kept (c : Dev nD) : (n : ℕ) → n ≤ cfg0.N → sProp (MT nD τ sig Unit (Elt F) ℕ (UR sig nD τ) ℕ)
  | 0, _ => Pipeline.ΦA spec0 c
  | n + 1, hn => iprop(owns (c : Thread nD τ) keep fullShare (hid (iblk m c 0 ⟨n, hn⟩) (iblk m c 1 ⟨n, hn⟩)) ∗ (∃ r, prngReg c r))

theorem kept_zero (c : Dev nD) (n : ℕ) (h : n ≤ cfg0.N) (hz : n = 0) : kept m c n h = Pipeline.ΦA spec0 c := by
  subst hz; rfl

theorem kept_pos (c : Dev nD) (t : Fin cfg0.N) (h : t.val ≤ cfg0.N) (hz : t.val ≠ 0) :
    kept m c t.val h = iprop(owns (c : Thread nD τ) keep fullShare (hid (iblk m c 0 (prev t)) (iblk m c 1 (prev t))) ∗ (∃ r, prngReg c r)) := by
  obtain ⟨n, hn⟩ := t
  cases n with
  | zero => exact absurd rfl hz
  | succ n => rfl

/-- The region's rest before the first point. -/
theorem rest_eq (c : Dev nD) :
    (Pipeline.ΦA spec0 c : sProp (MT nD τ sig Unit (Elt F) ℕ (UR sig nD τ) ℕ)) = iprop((∃ d, owns (c : Thread nD τ) keep fullShare d) ∗ (∃ r, prngReg c r)) := by
  unfold Pipeline.ΦA; rw [scopedRest0_eq]; simp only [keep, owns_whole]; try rfl

/-- What every buffer holds after the body at a point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => if t.val % 6 = 0 then firstTile (iblk m c 0 t) (iblk m c 1 t) (iblk m c 2 t) else nextTile (hid (iblk m c 0 t) (iblk m c 1 t)) (iblk m c 2 t)
    | ⟨7, _⟩ => gates (iblk m c 0 t) (iblk m c 1 t) (iblk m c 3 t) (iblk m c 4 t) (iblk m c 5 t)
  Φ t := kept m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = if t.val % 6 = 0 then firstTile (iblk m c 0 t) (iblk m c 1 t) (iblk m c 2 t) else nextTile (hid (iblk m c 0 t) (iblk m c 1 t)) (iblk m c 2 t) := by dsimp only [dats]
theorem after_7 (c : Dev nD) (t : Fin cfg0.N) : (dats m 0 c).after 7 t = gates (iblk m c 0 t) (iblk m c 1 t) (iblk m c 3 t) (iblk m c 4 t) (iblk m c 5 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! The blocks that do not change from a column tile to the next. -/

theorem same_0 (c : Dev nD) (t : Fin cfg0.N) (h : t.val % 6 ≠ 0) : iblk m c 0 (prev t) = iblk m c 0 t := by
  have hf : (cfg0.win 0).fetch t = false := Bool.eq_false_iff.mpr fun h' => by have := (fetch0_0 t).mp h'; omega
  have hl : (cfg0.win 0).flush (prev t) = false := rfl
  have e := before_0 m c t (iblk m c 0 t)
  rw [Dat.before_of_pos _ 0 t (by omega) hf] at e
  rw [if_neg (by rw [show (cfg0.win 0).flush ⟨t.val - 1, Nat.lt_of_le_of_lt (Nat.sub_le _ _) t.isLt⟩ = false from rfl]; exact Bool.false_ne_true)] at e
  exact ((show (dats m 0 c).left 0 (prev t) (iblk m c 0 t) = (dats m 0 c).after 0 (prev t) from rfl).trans (after_0 m c (prev t))).symm.trans e
theorem same_1 (c : Dev nD) (t : Fin cfg0.N) (h : t.val % 6 ≠ 0) : iblk m c 1 (prev t) = iblk m c 1 t := by
  have hf : (cfg0.win 1).fetch t = false := Bool.eq_false_iff.mpr fun h' => by have := (fetch0_1 t).mp h'; omega
  have hl : (cfg0.win 1).flush (prev t) = false := rfl
  have e := before_1 m c t (iblk m c 1 t)
  rw [Dat.before_of_pos _ 1 t (by omega) hf] at e
  rw [if_neg (by rw [show (cfg0.win 1).flush ⟨t.val - 1, Nat.lt_of_le_of_lt (Nat.sub_le _ _) t.isLt⟩ = false from rfl]; exact Bool.false_ne_true)] at e
  exact ((show (dats m 0 c).left 1 (prev t) (iblk m c 1 t) = (dats m 0 c).after 1 (prev t) from rfl).trans (after_1 m c (prev t))).symm.trans e
theorem same_3 (c : Dev nD) (t : Fin cfg0.N) (h : t.val % 6 ≠ 0) : iblk m c 3 (prev t) = iblk m c 3 t := by
  have hf : (cfg0.win 3).fetch t = false := Bool.eq_false_iff.mpr fun h' => by have := (fetch0_3 t).mp h'; omega
  have hl : (cfg0.win 3).flush (prev t) = false := rfl
  have e := before_3 m c t (iblk m c 3 t)
  rw [Dat.before_of_pos _ 3 t (by omega) hf] at e
  rw [if_neg (by rw [show (cfg0.win 3).flush ⟨t.val - 1, Nat.lt_of_le_of_lt (Nat.sub_le _ _) t.isLt⟩ = false from rfl]; exact Bool.false_ne_true)] at e
  exact ((show (dats m 0 c).left 3 (prev t) (iblk m c 3 t) = (dats m 0 c).after 3 (prev t) from rfl).trans (after_3 m c (prev t))).symm.trans e
theorem same_4 (c : Dev nD) (t : Fin cfg0.N) (h : t.val % 6 ≠ 0) : iblk m c 4 (prev t) = iblk m c 4 t := by
  have hf : (cfg0.win 4).fetch t = false := Bool.eq_false_iff.mpr fun h' => by have := (fetch0_4 t).mp h'; omega
  have hl : (cfg0.win 4).flush (prev t) = false := rfl
  have e := before_4 m c t (iblk m c 4 t)
  rw [Dat.before_of_pos _ 4 t (by omega) hf] at e
  rw [if_neg (by rw [show (cfg0.win 4).flush ⟨t.val - 1, Nat.lt_of_le_of_lt (Nat.sub_le _ _) t.isLt⟩ = false from rfl]; exact Bool.false_ne_true)] at e
  exact ((show (dats m 0 c).left 4 (prev t) (iblk m c 4 t) = (dats m 0 c).after 4 (prev t) from rfl).trans (after_4 m c (prev t))).symm.trans e
theorem same_5 (c : Dev nD) (t : Fin cfg0.N) (h : t.val % 6 ≠ 0) : iblk m c 5 (prev t) = iblk m c 5 t := by
  have hf : (cfg0.win 5).fetch t = false := Bool.eq_false_iff.mpr fun h' => by have := (fetch0_5 t).mp h'; omega
  have hl : (cfg0.win 5).flush (prev t) = false := rfl
  have e := before_5 m c t (iblk m c 5 t)
  rw [Dat.before_of_pos _ 5 t (by omega) hf] at e
  rw [if_neg (by rw [show (cfg0.win 5).flush ⟨t.val - 1, Nat.lt_of_le_of_lt (Nat.sub_le _ _) t.isLt⟩ = false from rfl]; exact Bool.false_ne_true)] at e
  exact ((show (dats m 0 c).left 5 (prev t) (iblk m c 5 t) = (dats m 0 c).after 5 (prev t) from rfl).trans (after_5 m c (prev t))).symm.trans e

theorem carry_7 (c : Dev nD) (t : Fin cfg0.N) (h : t.val % 6 ≠ 0) : (dats m 0 c).after 7 t = (dats m 0 c).after 7 (prev t) := by
  rw [after_7, after_7, same_0 m c t h, same_1 m c t h, same_3 m c t h, same_4 m c t h, same_5 m c t h]

/-- At a later column tile the gates' buffer holds the gates. -/
theorem before_7 (c : Dev nD) (t : Fin cfg0.N) (h : ¬ t.val % 6 = 0) (d) : (dats m 0 c).before 7 t d = (dats m 0 c).after 7 t := by
  have hc : ∀ (t : Fin cfg0.N) (_ : t.val ≠ 0), cfg0.idle 7 (cfg0.grid.coords t) = true → cfg0.fresh 7 t.val = false →
      (dats m 0 c).after 7 t = (dats m 0 c).after 7 ⟨t.val - 1, by omega⟩ := fun t _ _ hf => by
    rw [fresh_7 t.val (Nat.le_of_lt t.isLt), decide_eq_false_iff_not] at hf
    exact carry_7 m c t hf
  rw [Dat.before_out_traj _ 7 rfl (fun _ _ => rfl) hc t.val t rfl d, if_neg (by
    rw [fresh_7 t.val (Nat.le_of_lt t.isLt), decide_eq_false h]; exact Bool.false_ne_true)]
  exact (carry_7 m c t h).symm

/-! ## The body at a point -/

theorem leaves_6 (c : Dev nD) (t : Fin cfg0.N) : (dats m 0 c).leavesExact 6 t = owns (c : Thread nD τ) (st0_6 t) fullShare ((dats m 0 c).after 6 t) := by
  unfold Dat.leavesExact; rw [show cfg0.idle 6 (cfg0.grid.coords t) = false from live_6 t]

theorem leaves_7 (c : Dev nD) (t : Fin cfg0.N) (h : t.val % 6 = 0) : (dats m 0 c).leavesExact 7 t = owns (c : Thread nD τ) (st0_7 t) fullShare ((dats m 0 c).after 7 t) := by
  unfold Dat.leavesExact; rw [show cfg0.idle 7 (cfg0.grid.coords t) = false from live_7 t h]

theorem leaves_7' (c : Dev nD) (t : Fin cfg0.N) (h : ¬ t.val % 6 = 0) : owns (c : Thread nD τ) (st0_7 t) fullShare ((dats m 0 c).after 7 t) ⊢ (dats m 0 c).leavesExact 7 t := by
  unfold Dat.leavesExact; rw [show cfg0.idle 7 (cfg0.grid.coords t) = true from idle_7 t h]
  cases (cfg0.win 7).flush t
  · iintro H; iexists ((dats m 0 c).after 7 t); rw [before_7 m c t h]; iexact H
  · iintro H; iexact H

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t)

theorem inv_start (c : Dev nD) (t : Fin cfg0.N) : (dats m 0 c).Φ t.castSucc = kept m c t.val (Nat.le_of_lt t.isLt) := by
  dsimp only [dats]; rfl

theorem inv_finish (c : Dev nD) (t : Fin cfg0.N) : (dats m 0 c).Φ t.succ = iprop(owns (c : Thread nD τ) keep fullShare (hid (iblk m c 0 t) (iblk m c 1 t)) ∗ (∃ r, prngReg c r)) := rfl

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, leaves_6, after_6, inv_finish, inv_start]
  by_cases h0 : t.val % 6 = 0
  · have hk : kept m c t.val (Nat.le_of_lt t.isLt) ⊢ (iprop((∃ d, owns (c : Thread nD τ) keep fullShare d) ∗ (∃ r, prngReg c r)) : sProp (MT nD τ sig Unit (Elt F) ℕ (UR sig nD τ) ℕ)) := by
      by_cases hz : t.val = 0
      · rw [kept_zero m c _ _ hz, rest_eq]
      · rw [kept_pos m c t _ hz]
        iintro ⟨HS, Hg⟩
        isplitl [HS]
        · iexists _; iexact HS
        iexact Hg
    refine (sep_mono hk .rfl).trans ?_
    rw [if_pos h0, leaves_7 m c t h0, after_7]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_first c Set.univ (grid0.coords t) _ _ _ _ _ _ _ _ _ _ _ _ _ _ _ _ _ _ ((cond_first t).mpr h0) (fun h => (cond_next t).mp h h0) (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [kept_pos m c t _ (by omega), if_neg h0, same_0 m c t h0, same_1 m c t h0]
    simp only [before_7 m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (sound_next c Set.univ (grid0.coords t) _ _ _ _ _ _ _ _ _ _ _ _ _ _ _ _ _ _ (fun h => h0 ((cond_first t).mp h)) ((cond_next t).mpr h0) (iblk m c 0 t) (iblk m c 1 t) (iblk m c 2 t) (iblk m c 3 t) (iblk m c 4 t) (iblk m c 5 t) ((dats m 0 c).after 7 t) (hid (iblk m c 0 t) (iblk m c 1 t)) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS]; · iexact HS
    iintro ⟨H0, H1, H2, H3, H4, H5, H6, H7, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iapply (leaves_7' m c t h0)
    iexact H7

theorem body_row (t : Fin cfg0.N) :
    defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (sound_body m c t) rfl .rfl fun _ => .rfl

theorem inv_in (c : Dev nD) : Pipeline.ΦA spec0 c ⊢ (dats m 0 c).Φ 0 := by
  rw [show (dats m 0 c).Φ 0 = kept m c 0 (Nat.zero_le _) from rfl, kept_zero m c 0 _ rfl]

theorem inv_out (c : Dev nD) : (dats m 0 c).Φ (Fin.last cfg0.N) ⊢ Pipeline.ΦA spec0 c := by
  rw [show (dats m 0 c).Φ (Fin.last cfg0.N) = (dats m 0 c).Φ (⟨95, by rw [show cfg0.N = 96 from N_0]; omega⟩ : Fin cfg0.N).succ from
    congrArg _ (Fin.ext (show cfg0.N = 95 + 1 from N_0)), inv_finish, rest_eq]
  iintro ⟨HS, Hg⟩
  isplitl [HS]
  · iexists _; iexact HS
  iexact Hg

/-! ## The run -/

set_option backward.isDefEq.respectTransparency.types false in
set_option maxHeartbeats 800000 in
theorem ends_idle : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := inv_in m) (hout := inv_out m)

theorem ends : θ_run defs (onTc (τ := τ) (main (F := F))) (s₀ m ρ) (Pipeline.FramePost cfgs (dats m) 0 (V m)) :=
  (θ_run defs _ _).mono (fun _ h => h.1) (ends_idle m ρ)

/-- The arguments end unchanged and every counter at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (ends m ρ)) ((θ_run defs _ _).mono (fun _ h => h.2) (ends_idle m ρ))

end Cert.Kernel5Ideal.Proj

end
-- ==== Proof.InPay.lean ====
/- The input projection's stores at a row and a column, and the decay's gate as a function of one number. -/
module

public import proofs.«01_k».proof.Proof.InRun
public import proofs.«01_k».proof.Proof.FfnPay

@[expose] public section

set_option maxRecDepth 16384

noncomputable section

namespace Cert.Proj

open Idealize.ShloMosaic Idealize.ShloMosaic.TcCoe

/-- The gate: the logarithm of the sigmoid, over sixteen. -/
def gate (z : EReal) : EReal :=
  (min z 0 - Ideal.log (1 + Ideal.exp (0 - max z (-z)))) * Ideal.ofBits FTy.f32 1031798784#32

/-- A row through the two thin matrices, plus the bias. -/
def thin (h : Fin 2048 → EReal) (L : Fin 128 → Fin 2048 → EReal) (U : Fin 128 → Fin 512 → EReal) (b : Fin 512 → EReal) (d : Fin 512) : EReal :=
  ∑ j, (∑ k, h k * L j k) * U j d + b d

theorem sixteenth : Ideal.ofBits FTy.f32 1031798784#32 = (((1 : ℝ) / 16 : ℝ) : EReal) := by
  simp [Ideal.ofBits, Ideal.ieee]
  rw [← EReal.coe_mul]
  norm_num

theorem sixteen : Ideal.ofBits FTy.f32 1098907648#32 = ((16 : ℝ) : EReal) := by
  simp [Ideal.ofBits, Ideal.ieee]
  rw [← EReal.coe_mul]
  norm_num

/-- The reference's way of writing the gate. -/
theorem gate_host (z : EReal) :
    Ideal.div (-(max (-z) 0 + Ideal.log1p (Ideal.exp (-max (-z) (- -z))))) (Ideal.ofBits FTy.f32 1098907648#32) = gate z := by
  have h16 : (16 : ℝ) ≠ 0 := by norm_num
  have hz : ((16 : ℝ) : EReal) ≠ 0 := by exact_mod_cast h16
  have hmin : -max (-z) 0 = min z 0 := by
    rcases le_total z 0 with h | h
    · rw [min_eq_left h, max_eq_left (by simpa using EReal.neg_le_neg_iff.mpr h), neg_neg]
    · rw [min_eq_right h, max_eq_right (by simpa using EReal.neg_le_neg_iff.mpr h), neg_zero]
  have hb : max (-z) 0 ≠ ⊥ := ne_of_gt (lt_of_lt_of_le (by simp) (le_max_right _ _))
  have one : Ideal.log (1 + Ideal.exp ⊥) ≠ ⊥ := by
    show Ideal.log (((1 : ℝ) : EReal) + ((0 : ℝ) : EReal)) ≠ ⊥
    rw [← EReal.coe_add]
    show (if (1 : ℝ) + 0 ≤ 0 then ⊥ else (Real.log (1 + 0) : EReal)) ≠ ⊥
    rw [if_neg (by norm_num)]
    exact EReal.coe_ne_bot _
  have ht : Ideal.log (1 + Ideal.exp (-max z (-z))) ≠ ⊥ := by
    induction z using EReal.rec with
    | bot =>
      have e : -max (⊥ : EReal) (-⊥) = ⊥ := by simp
      rw [e]
      exact one
    | top =>
      have e : -max (⊤ : EReal) (-⊤) = ⊥ := by simp
      rw [e]
      exact one
    | coe x =>
      have e : -max (x : EReal) (-(x : EReal)) = ((-max x (-x) : ℝ) : EReal) := by
        push_cast
        rfl
      rw [e]
      have hp : ¬ 1 + Real.exp (-max x (-x)) ≤ 0 := not_le.mpr (by positivity)
      show Ideal.log (((1 : ℝ) : EReal) + (Real.exp (-max x (-x)) : EReal)) ≠ ⊥
      rw [← EReal.coe_add]
      show (if 1 + Real.exp (-max x (-x)) ≤ 0 then ⊥ else (Real.log (1 + Real.exp (-max x (-x))) : EReal)) ≠ ⊥
      rw [if_neg hp]
      exact EReal.coe_ne_bot _
  unfold gate Ideal.div Ideal.log1p
  rw [sixteen, sixteenth, if_neg hz, neg_neg, max_comm (-z) z, EReal.neg_add (Or.inl hb) (Or.inr ht), hmin, zero_sub, one_div, EReal.coe_inv]

end Cert.Proj

namespace Cert.Rows

open Idealize.ShloMosaic Idealize.ShloMosaic.TcCoe

variable {N : ℕ} {Val : EltTy → Type} {e : EltTy} [∀ e, Nonempty (Val e)]

/-- Four stores, each of a quarter of the rows: where all of them agree with one array, that array stands. -/
theorem canon_quarters (i0 : ∀ a, (![0, 0] : Fin 2 → ℕ) a + (![256, N] : Fin 2 → ℕ) a ≤ (⟨2, ![1024, N]⟩ : Shape).size a)
    (i1 : ∀ a, (![256, 0] : Fin 2 → ℕ) a + (![256, N] : Fin 2 → ℕ) a ≤ (⟨2, ![1024, N]⟩ : Shape).size a)
    (i2 : ∀ a, (![512, 0] : Fin 2 → ℕ) a + (![256, N] : Fin 2 → ℕ) a ≤ (⟨2, ![1024, N]⟩ : Shape).size a)
    (i3 : ∀ a, (![768, 0] : Fin 2 → ℕ) a + (![256, N] : Fin 2 → ℕ) a ≤ (⟨2, ![1024, N]⟩ : Shape).size a)
    (w0 w1 w2 w3 : (⟨2, ![256, N]⟩ : Shape).Idx → Val e) (U : Fin 1024 → Fin N → Val e) (s : Fin 1024) (c : Fin N)
    (h0 : ∀ r, w0 (ix2 r c) = U ⟨0 + r.val, inb_row i0 r⟩ c) (h1 : ∀ r, w1 (ix2 r c) = U ⟨256 + r.val, inb_row i1 r⟩ c)
    (h2 : ∀ r, w2 (ix2 r c) = U ⟨512 + r.val, inb_row i2 r⟩ c) (h3 : ∀ r, w3 (ix2 r c) = U ⟨768 + r.val, inb_row i3 r⟩ c) :
    View.canon [(⟨Rect.unit (s := (⟨2, ![1024, N]⟩ : Shape)) ![768, 0] ![256, N] i3, w3⟩ : View.Piece Val (⟨2, ![1024, N]⟩ : Shape) e),
      ⟨Rect.unit (s := (⟨2, ![1024, N]⟩ : Shape)) ![512, 0] ![256, N] i2, w2⟩, ⟨Rect.unit (s := (⟨2, ![1024, N]⟩ : Shape)) ![256, 0] ![256, N] i1, w1⟩,
      ⟨Rect.unit (s := (⟨2, ![1024, N]⟩ : Shape)) ![0, 0] ![256, N] i0, w0⟩] (ix2 s c) = U s c := by
  by_cases c3 : 768 ≤ s.val
  · have e1 : s.val = 768 + (s.val - 768) := by omega
    exact (canon_row i3 w3 _ s c ⟨s.val - 768, by omega⟩ e1).trans ((h3 _).trans (congrArg (fun q => U q c) (Fin.ext e1.symm)))
  rw [canon_off i3 w3 _ s c (by omega)]
  by_cases c2 : 512 ≤ s.val
  · have e1 : s.val = 512 + (s.val - 512) := by omega
    exact (canon_row i2 w2 _ s c ⟨s.val - 512, by omega⟩ e1).trans ((h2 _).trans (congrArg (fun q => U q c) (Fin.ext e1.symm)))
  rw [canon_off i2 w2 _ s c (by omega)]
  by_cases c1 : 256 ≤ s.val
  · have e1 : s.val = 256 + (s.val - 256) := by omega
    exact (canon_row i1 w1 _ s c ⟨s.val - 256, by omega⟩ e1).trans ((h1 _).trans (congrArg (fun q => U q c) (Fin.ext e1.symm)))
  rw [canon_off i1 w1 _ s c (by omega)]
  have e1 : s.val = 0 + s.val := by omega
  exact (canon_row i0 w0 _ s c ⟨s.val, by omega⟩ e1).trans ((h0 _).trans (congrArg (fun q => U q c) (Fin.ext e1.symm)))

end Cert.Rows

namespace Cert.Kernel5Ideal.Proj

open Cert.Kernel5Ideal Cert.Kernel5Ideal.Gen Idealize.ShloMosaic Idealize.ShloMosaic.TcCoe Idealize.SL.Sem
open Cert.Kernel2Ideal.Ffn (normAt)

/-- The matrix's columns, unpacked. -/
abbrev un (w : Vec Ideal S1024x1024 .i32) : Fin 2048 → Fin 1024 → EReal := Words.rows (a := 1024) rfl w

theorem pay2_at (x : Vec Ideal S256x2048 .f32) (n : Vec Ideal S1x2048 .f32) (r : Fin 256) (k : Fin 2048) :
    k0_pay2 x n (ix2 r k) = normAt (fun d => x (ix2 r d)) (fun d => n (ix2 0 d)) k := by
  pointwise [k0_pay2]
  rfl

theorem pay3_at (x : Vec Ideal S256x2048 .f32) (n : Vec Ideal S1x2048 .f32) (r : Fin 256) (k : Fin 2048) :
    k0_pay3 x n (ix2 r k) = normAt (fun d => x (ix2 r d)) (fun d => n (ix2 0 d)) k := by
  pointwise [k0_pay3, pay2_at]

theorem pay4_at (x : Vec Ideal S256x2048 .f32) (n : Vec Ideal S1x2048 .f32) (l : Vec Ideal S128x2048 .bf16) (u : Vec Ideal S128x512 .bf16) (b : Vec Ideal S1x512 .f32) (r : Fin 256) (d : Fin 512) :
    k0_pay4 x n l u b (ix2 r d)
      = Cert.Proj.gate (Cert.Proj.thin (fun k => normAt (fun d => x (ix2 r d)) (fun d => n (ix2 0 d)) k) (fun j k => l (ix2 j k)) (fun j d => u (ix2 j d)) (fun d => b (ix2 0 d)) d) := by
  pointwise [k0_pay4, pay2_at]
  rfl

theorem pay13_at (x : Vec Ideal S256x2048 .f32) (n : Vec Ideal S1x2048 .f32) (w : Vec Ideal S1024x1024 .i32) (r : Fin 256) (d : Fin 1024) :
    k0_pay13 (k0_pay5 (k0_pay2 x n) w) (ix2 r d) = ∑ k : Fin 2048, normAt (fun d => x (ix2 r d)) (fun d => n (ix2 0 d)) k * un w k d := by
  pointwise [k0_pay13, k0_pay5]
  exact Finset.sum_congr rfl fun k _ => congrArg₂ (· * ·) (pay2_at x n r k) (Words.bitcast_at (a := 1024) rfl w _ k d)

theorem pay1_at (h : Vec Ideal S1024x2048 .bf16) (w : Vec Ideal S1024x1024 .i32) (r : Fin 1024) (d : Fin 1024) :
    k0_pay1 h w (ix2 r d) = ∑ k : Fin 2048, h (ix2 r k) * un w k d := by
  pointwise [k0_pay1]
  exact Finset.sum_congr rfl fun k _ => congrArg (h (ix2 r k) * ·) (Words.bitcast_at (a := 1024) rfl w _ k d)

variable (x0 : Vec Ideal S1024x2048 .f32) (x1 : Vec Ideal S1x2048 .f32) (x2 : Vec Ideal S1024x1024 .i32) (x3 : Vec Ideal S128x2048 .bf16) (x4 : Vec Ideal S128x512 .bf16) (x5 : Vec Ideal S1x512 .f32)

theorem ld_n : View.ld x1 wn = x1 := Rows.ld_all (Val := Elt Ideal) (e := .f32) (M := 1) (N := 2048) x1 _
theorem ld_w : View.ld x2 ww = x2 := Rows.ld_all (Val := Elt Ideal) (e := .i32) (M := 1024) (N := 1024) x2 _
theorem ld_l : View.ld x3 wl = x3 := Rows.ld_all (Val := Elt Ideal) (e := .bf16) (M := 128) (N := 2048) x3 _
theorem ld_u : View.ld x4 wu = x4 := Rows.ld_all (Val := Elt Ideal) (e := .bf16) (M := 128) (N := 512) x4 _
theorem ld_b : View.ld x5 wb = x5 := Rows.ld_all (Val := Elt Ideal) (e := .f32) (M := 1) (N := 512) x5 _
theorem ld_h (h : Vec Ideal S1024x2048 .bf16) : View.ld h wh = h := Rows.ld_all (Val := Elt Ideal) (e := .bf16) (M := 1024) (N := 2048) h _

/-- A row of a tile, normalized. -/
abbrev nrow (s : Fin 1024) (k : Fin 2048) : EReal := normAt (fun d => x0 (ix2 s d)) (fun d => x1 (ix2 0 d)) k

theorem row_a (r : Fin 256) : (fun d => View.ld x0 xa (ix2 r d)) = fun d => x0 (ix2 ⟨0 + r.val, by omega⟩ d) :=
  funext fun d => Rows.ld_row (Val := Elt Ideal) (e := .f32) (M := 1024) (N := 2048) (k := 256) x0 (o := 0) _ r d
theorem row_b (r : Fin 256) : (fun d => View.ld x0 xb (ix2 r d)) = fun d => x0 (ix2 ⟨256 + r.val, by omega⟩ d) :=
  funext fun d => Rows.ld_row (Val := Elt Ideal) (e := .f32) (M := 1024) (N := 2048) (k := 256) x0 (o := 256) _ r d
theorem row_c (r : Fin 256) : (fun d => View.ld x0 xc (ix2 r d)) = fun d => x0 (ix2 ⟨512 + r.val, by omega⟩ d) :=
  funext fun d => Rows.ld_row (Val := Elt Ideal) (e := .f32) (M := 1024) (N := 2048) (k := 256) x0 (o := 512) _ r d
theorem row_d (r : Fin 256) : (fun d => View.ld x0 xd (ix2 r d)) = fun d => x0 (ix2 ⟨768 + r.val, by omega⟩ d) :=
  funext fun d => Rows.ld_row (Val := Elt Ideal) (e := .f32) (M := 1024) (N := 2048) (k := 256) x0 (o := 768) _ r d

theorem hid_at (s : Fin 1024) (k : Fin 2048) : hid x0 x1 (ix2 s k) = nrow x0 x1 s k := by
  unfold hid
  rw [ld_n]
  refine Rows.canon_quarters (Val := Elt Ideal) (e := .bf16) (N := 2048) _ _ _ _ _ _ _ _ (nrow x0 x1) s k (fun r => ?_) (fun r => ?_) (fun r => ?_) (fun r => ?_)
  · exact (pay3_at (View.ld x0 xa) x1 r k).trans (by rw [row_a])
  · exact (pay3_at (View.ld x0 xb) x1 r k).trans (by rw [row_b])
  · exact (pay3_at (View.ld x0 xc) x1 r k).trans (by rw [row_c])
  · exact (pay3_at (View.ld x0 xd) x1 r k).trans (by rw [row_d])

theorem gates_at (s : Fin 1024) (d : Fin 512) :
    gates x0 x1 x3 x4 x5 (ix2 s d)
      = Cert.Proj.gate (Cert.Proj.thin (nrow x0 x1 s) (fun j k => x3 (ix2 j k)) (fun j d => x4 (ix2 j d)) (fun d => x5 (ix2 0 d)) d) := by
  unfold gates
  rw [ld_n, ld_l, ld_u, ld_b]
  refine Rows.canon_quarters (Val := Elt Ideal) (e := .f32) (N := 512) _ _ _ _ _ _ _ _
    (fun s d => Cert.Proj.gate (Cert.Proj.thin (nrow x0 x1 s) (fun j k => x3 (ix2 j k)) (fun j d => x4 (ix2 j d)) (fun d => x5 (ix2 0 d)) d)) s d (fun r => ?_) (fun r => ?_) (fun r => ?_) (fun r => ?_)
  · exact (pay4_at (View.ld x0 xa) x1 x3 x4 x5 r d).trans (by rw [row_a])
  · exact (pay4_at (View.ld x0 xb) x1 x3 x4 x5 r d).trans (by rw [row_b])
  · exact (pay4_at (View.ld x0 xc) x1 x3 x4 x5 r d).trans (by rw [row_c])
  · exact (pay4_at (View.ld x0 xd) x1 x3 x4 x5 r d).trans (by rw [row_d])

theorem firstTile_at (s : Fin 1024) (d : Fin 1024) : firstTile x0 x1 x2 (ix2 s d) = ∑ k : Fin 2048, nrow x0 x1 s k * un x2 k d := by
  unfold firstTile
  rw [ld_n, ld_w]
  refine Rows.canon_quarters (Val := Elt Ideal) (e := .bf16) (N := 1024) _ _ _ _ _ _ _ _
    (fun s d => ∑ k : Fin 2048, nrow x0 x1 s k * un x2 k d) s d (fun r => ?_) (fun r => ?_) (fun r => ?_) (fun r => ?_)
  · exact (pay13_at (View.ld x0 xa) x1 x2 r d).trans (by rw [row_a])
  · exact (pay13_at (View.ld x0 xb) x1 x2 r d).trans (by rw [row_b])
  · exact (pay13_at (View.ld x0 xc) x1 x2 r d).trans (by rw [row_c])
  · exact (pay13_at (View.ld x0 xd) x1 x2 r d).trans (by rw [row_d])

theorem nextTile_at (s : Fin 1024) (d : Fin 1024) : nextTile (hid x0 x1) x2 (ix2 s d) = ∑ k : Fin 2048, nrow x0 x1 s k * un x2 k d := by
  unfold nextTile
  rw [ld_h, ld_w]
  refine (congrFun (Rows.canon_all (Val := Elt Ideal) (e := .bf16) (M := 1024) (N := 1024) _ _ _) _).trans ((pay1_at _ x2 s d).trans ?_)
  exact Finset.sum_congr rfl fun k _ => congrArg (· * un x2 k d) (hid_at x0 x1 s k)

end Cert.Kernel5Ideal.Proj

end
-- ==== Proof.InVal.lean ====
/- The input projection: what the call leaves in its two arrays. -/
module

public import proofs.«01_k».proof.Proof.InPay

@[expose] public section

set_option maxRecDepth 16384

noncomputable section

namespace Cert.Kernel5Ideal.Proj

open Cert.Kernel5Ideal Cert.Kernel5Ideal.Gen Idealize.ShloMosaic Idealize.ShloMosaic.TcCoe Idealize.SL.Sem
open Cert.Kernel2Ideal.Ffn (normAt)

variable (m : (ℓ : Loc nD τ sig) → Buf (Elt Ideal) ℓ) (c : Dev nD)

theorem idx : ∀ t : Fin cfg0.N, win0_0.index t = ![t.val / 6, 0] ∧ win0_1.index t = ![0, 0] ∧ win0_2.index t = ![0, t.val % 6]
    ∧ win0_3.index t = ![0, 0] ∧ win0_4.index t = ![0, 0] ∧ win0_5.index t = ![0, 0] ∧ win0_6.index t = ![t.val / 6, t.val % 6] ∧ win0_7.index t = ![t.val / 6, 0] :=
  (by decide +kernel : ∀ t : Fin grid0.N, _)

theorem lt96 (t : Fin cfg0.N) : t.val < 96 := lt_of_lt_of_eq t.isLt (by decide)

abbrev argX : Vec Ideal S16384x2048 .f32 := m ((c : Thread nD τ).loc main_arg0)
abbrev argN : Vec Ideal S1x2048 .f32 := m ((c : Thread nD τ).loc main_arg1)
abbrev argW : Vec Ideal S1024x6144 .i32 := m ((c : Thread nD τ).loc main_arg2)
abbrev argL : Vec Ideal S128x2048 .bf16 := m ((c : Thread nD τ).loc main_arg3)
abbrev argU : Vec Ideal S128x512 .bf16 := m ((c : Thread nD τ).loc main_arg4)
abbrev argB : Vec Ideal S1x512 .f32 := m ((c : Thread nD τ).loc main_arg5)

/-- A tile's row in the whole array, and a column tile's column. -/
abbrev row (t : Fin cfg0.N) (s : Fin 1024) : Fin 16384 := ⟨1024 * (t.val / 6) + s.val, by have := lt96 t; omega⟩
abbrev col (t : Fin cfg0.N) (d : Fin 1024) : Fin 6144 := ⟨1024 * (t.val % 6) + d.val, by omega⟩

theorem b0_at (t : Fin cfg0.N) (r : Fin 1024) (d : Fin 2048) : iblk m c 0 t (ix2 r d) = argX m c (ix2 (row t r) d) := by
  blk_point [iblk, V, idx t]

theorem b1_at (t : Fin cfg0.N) (r : Fin 1) (d : Fin 2048) : iblk m c 1 t (ix2 r d) = argN m c (ix2 r d) := by
  blk_point [iblk, V, idx t]

theorem b2_at (t : Fin cfg0.N) (k : Fin 1024) (d : Fin 1024) : iblk m c 2 t (ix2 k d) = argW m c (ix2 k (col t d)) := by
  blk_point [iblk, V, idx t]

theorem b3_at (t : Fin cfg0.N) (j : Fin 128) (k : Fin 2048) : iblk m c 3 t (ix2 j k) = argL m c (ix2 j k) := by
  blk_point [iblk, V, idx t]

theorem b4_at (t : Fin cfg0.N) (j : Fin 128) (d : Fin 512) : iblk m c 4 t (ix2 j d) = argU m c (ix2 j d) := by
  blk_point [iblk, V, idx t]

theorem b5_at (t : Fin cfg0.N) (r : Fin 1) (d : Fin 512) : iblk m c 5 t (ix2 r d) = argB m c (ix2 r d) := by
  blk_point [iblk, V, idx t]

/-- A row of the input, normalized. -/
abbrev whole (r : Fin 16384) (k : Fin 2048) : EReal := normAt (fun d => argX m c (ix2 r d)) (fun d => argN m c (ix2 0 d)) k

/-- The projection after the run. -/
def projArr : Vec Ideal S16384x6144 .bf16 := fun y =>
  ∑ k : Fin 2048, whole m c (y 0) k * Words.rows (a := 1024) (b := 2048) rfl (argW m c) k (y 1)

/-- The gates after the run. -/
def gateArr : Vec Ideal S16384x512 .f32 := fun y =>
  Cert.Proj.gate (Cert.Proj.thin (whole m c (y 0)) (fun j k => argL m c (ix2 j k)) (fun j d => argU m c (ix2 j d)) (fun d => argB m c (ix2 0 d)) (y 1))

theorem nrow_at (t : Fin cfg0.N) (s : Fin 1024) : nrow (iblk m c 0 t) (iblk m c 1 t) s = whole m c (row t s) := by
  funext k
  have h0 := funext fun d => b0_at m c t s d
  have h1 := funext fun d => b1_at m c t 0 d
  show normAt _ _ k = normAt _ _ k
  rw [h0, h1]

theorem un_at (t : Fin cfg0.N) (k : Fin 2048) (d : Fin 1024) :
    un (iblk m c 2 t) k d = Words.rows (a := 1024) (b := 2048) rfl (argW m c) k (col t d) :=
  congrArg (fun v => Words.half v (k.val % 2)) (b2_at m c t _ d)

theorem proj_at (t : Fin cfg0.N) (s d : Fin 1024) : (dats m 0 c).after 6 t (ix2 s d) = projArr m c (ix2 (row t s) (col t d)) := by
  have e : ∑ k : Fin 2048, nrow (iblk m c 0 t) (iblk m c 1 t) s k * un (iblk m c 2 t) k d = projArr m c (ix2 (row t s) (col t d)) :=
    Finset.sum_congr rfl fun k _ => congrArg₂ (· * ·) (congrFun (nrow_at m c t s) k) (un_at m c t k d)
  rw [after_6]
  split
  · exact (firstTile_at _ _ _ s d).trans e
  · exact (nextTile_at _ _ _ s d).trans e

theorem gate_at (t : Fin cfg0.N) (s : Fin 1024) (d : Fin 512) : (dats m 0 c).after 7 t (ix2 s d) = gateArr m c (ix2 (row t s) d) := by
  rw [after_7]
  refine (gates_at _ _ _ _ _ s d).trans ?_
  have h3 := funext fun j => funext fun k => b3_at m c t j k
  have h4 := funext fun j => funext fun d => b4_at m c t j d
  have h5 := funext fun d => b5_at m c t 0 d
  rw [nrow_at, h3, h4, h5]
  rfl

theorem proj_eq : (dats m 0 c).arrAt 6 cfg0.N = projArr m c := by
  refine (dats m 0 c).arrAt_eq_of_covers 6 _ (by decide +kernel) fun t hf y => ?_
  blk_simp
  have he : (win0_6.blk t).view.emb y = ix2 (row t ⟨(y 0).val, (y 0).isLt⟩) (col t ⟨(y 1).val, (y 1).isLt⟩) := by
    funext a
    refine Fin.ext ?_
    match a with
    | ⟨0, _⟩ =>
      blk_point [idx t]
      exact congrArg (· + (y 0).val) (Nat.mul_comm (t.val / 6) 1024)
    | ⟨1, _⟩ =>
      blk_point [idx t]
      exact congrArg (· + (y 1).val) (Nat.mul_comm (t.val % 6) 1024)
  refine (congrArg _ (Rows.eta (M := 1024) (N := 1024) y)).trans ((proj_at m c t (y 0) (y 1)).trans ?_)
  exact congrArg _ he.symm

theorem gate_eq : (dats m 0 c).arrAt 7 cfg0.N = gateArr m c := by
  refine (dats m 0 c).arrAt_eq_of_covers 7 _ (by decide +kernel) fun t hf y => ?_
  blk_simp
  have he : (win0_7.blk t).view.emb y = ix2 (row t ⟨(y 0).val, (y 0).isLt⟩) ⟨(y 1).val, (y 1).isLt⟩ := by
    funext a
    refine Fin.ext ?_
    match a with
    | ⟨0, _⟩ =>
      blk_point [idx t]
      exact congrArg (· + (y 0).val) (Nat.mul_comm (t.val / 6) 1024)
    | ⟨1, _⟩ =>
      blk_point [idx t]
      rfl
  refine (congrArg _ (Rows.eta (M := 1024) (N := 512) y)).trans ((gate_at m c t (y 0) (y 1)).trans ?_)
  exact congrArg _ he.symm

/-- After the run the two arrays hold the projection and the gates, and the arguments what they held. -/
theorem run (ρ : Dev nD → PrngReg) : θ_run defs (onTc (τ := τ) (main (F := Ideal))) ⟨m, fun _ => 0, ρ⟩ (fun r => ∀ c : Dev nD,
      r.2.mem ((c.tc : Thread nD τ).loc main_v0_0) = projArr m c
      ∧ r.2.mem ((c.tc : Thread nD τ).loc main_v0_1) = gateArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 6).trans (proj_eq m c), ((h.1 c).1 7).trans (gate_eq m c), h.2.1 c⟩)
    (θ_run_and (ends m ρ) (framed m ρ))

end Cert.Kernel5Ideal.Proj

end
-- ==== Proof.InRef.lean ====
/- The input projection's reference at a row and a column. -/
module

public import proofs.«01_k».proof.Proof.Gen.Reference5Ideal.Run
public import proofs.«01_k».proof.Proof.FfnRef
public import proofs.«01_k».proof.Proof.PleRef
public import proofs.«01_k».proof.Proof.InPay

@[expose] public section

set_option maxRecDepth 16384

noncomputable section

namespace Cert.Reference5Ideal.Proj

open Cert.Reference5Ideal Cert.Reference5Ideal.Gen Idealize.ShloMosaic Idealize.ShloMosaic.TcCoe Idealize.SL.Sem
open Cert.Reference2Ideal.Ffn (sums normed)
open Cert.Kernel2Ideal.Ffn (normAt)

/-- The matrix, unpacked. -/
def rowsW (w : IVec S1024x6144 32) : FVec Ideal S2048x6144 .bf16 :=
  shapeCast _ (transpose S1024x2x6144 [0, 2, 1] (bitcastToFloat (F := Ideal) .bf16 (Host.bitcastConvertNarrow S1024x6144x2 16 w splits_S1024x6144_w32_S1024x6144x2_w16)) transposes_S1024x6144x2_S1024x2x6144_0_2_1) shapeCasts_S1024x2x6144_S2048x6144

/-- The projection of normalized rows. -/
def projected (h : FVec Ideal S16384x2048 .f32) (W : FVec Ideal S2048x6144 .bf16) : FVec Ideal S16384x6144 .bf16 :=
  truncf .bf16 (Host.dotGeneral dot_S16384x2048_S2048x6144_S16384x6144_1_0_0_1_n_n none h (extf .f32 W bitsLt_bf16_f32)) bitsLt_bf16_f32

/-- Normalized rows through the two thin matrices, plus the bias. -/
def thinned (h : FVec Ideal S16384x2048 .f32) (L : FVec Ideal S128x2048 .bf16) (U : FVec Ideal S128x512 .bf16) (b : FVec Ideal S1x512 .f32) : FVec Ideal S16384x512 .f32 :=
  addf (Host.dotGeneral dot_S16384x128_S128x512_S16384x512_1_0_0_1_n_n none (Host.dotGeneral dot_S16384x2048_S2048x128_S16384x128_1_0_0_1_n_n none h (transpose S2048x128 [1, 0] (extf .f32 L bitsLt_bf16_f32) transposes_S128x2048_S2048x128_1_0)) (extf .f32 U bitsLt_bf16_f32)) (broadcastInDim S16384x512 ![0, 1] bcast_S1x512_S16384x512_0_1 b)

/-- Every entry zero. -/
def zeros : FVec Ideal S16384x512 .f32 := broadcastInDim S16384x512 ![] bcast_S_S16384x512 (constant S_ .f32 0x00000000#32)

/-- The logarithm of the sigmoid, over sixteen. -/
def gated (z : FVec Ideal S16384x512 .f32) : FVec Ideal S16384x512 .f32 :=
  Host.divf (Host.negf (select (cmpf .une (subf (Host.negf z) zeros) (subf (Host.negf z) zeros)) (addf (Host.negf z) zeros)
    (addf (maximumf (Host.negf z) zeros) (Host.log1p (Host.exp (Host.negf (Host.absf (subf (Host.negf z) zeros))))))))
    (broadcastInDim S16384x512 ![] bcast_S_S16384x512 (constant S_ .f32 0x41800000#32))

theorem res_eq (m : (ℓ : Loc nD τ sig) → Buf (Elt Ideal) ℓ) (c : Dev nD) :
    Value.res_out1 m c = gated (thinned (normed (m ((c.tc : Thread nD τ).loc main_arg0)) (sums (mulf (m ((c.tc : Thread nD τ).loc main_arg0)) (m ((c.tc : Thread nD τ).loc main_arg0)))) (m ((c.tc : Thread nD τ).loc main_arg1))) (m ((c.tc : Thread nD τ).loc main_arg3)) (m ((c.tc : Thread nD τ).loc main_arg4)) (m ((c.tc : Thread nD τ).loc main_arg5))) := by
  unfold Value.res_out1 Value.res_main_v27 gated thinned zeros normed sums
  rfl

theorem rowsW_at (w : IVec S1024x6144 32) (k : Fin 2048) (x : Fin 6144) : rowsW w (ix2 k x) = Words.rows (a := 1024) (b := 2048) rfl w k x := by
  pointwise [rowsW]
  exact Words.narrow_at (a := 1024) (n := 6144) w _ ⟨k.val / 2, by omega⟩ x ⟨k.val % 2, by omega⟩

theorem projected_at (X : FVec Ideal S16384x2048 .f32) (nw : FVec Ideal S1x2048 .f32) (w : IVec S1024x6144 32) (r : Fin 16384) (d : Fin 6144) :
    projected (normed X (sums (mulf X X)) nw) (rowsW w) (ix2 r d)
      = ∑ k : Fin 2048, normAt (fun d => X (ix2 r d)) (fun d => nw (ix2 0 d)) k * Words.rows (a := 1024) (b := 2048) rfl w k d := by
  have e : projected (normed X (sums (mulf X X)) nw) (rowsW w) (ix2 r d) = ∑ k : Fin 2048, normed X (sums (mulf X X)) nw (ix2 r k) * rowsW w (ix2 k d) := by
    pointwise [projected]
  rw [e]
  exact Finset.sum_congr rfl fun k _ => congrArg₂ (· * ·) (Reference3Ideal.Ple.norm_at X nw r k) (rowsW_at w k d)

theorem thinned_at (X : FVec Ideal S16384x2048 .f32) (nw : FVec Ideal S1x2048 .f32) (L : FVec Ideal S128x2048 .bf16) (U : FVec Ideal S128x512 .bf16) (b : FVec Ideal S1x512 .f32) (r : Fin 16384) (d : Fin 512) :
    thinned (normed X (sums (mulf X X)) nw) L U b (ix2 r d)
      = Cert.Proj.thin (fun k => normAt (fun d => X (ix2 r d)) (fun d => nw (ix2 0 d)) k) (fun j k => L (ix2 j k)) (fun j d => U (ix2 j d)) (fun d => b (ix2 0 d)) d := by
  have e : thinned (normed X (sums (mulf X X)) nw) L U b (ix2 r d)
      = ∑ j : Fin 128, (∑ k : Fin 2048, normed X (sums (mulf X X)) nw (ix2 r k) * L (ix2 j k)) * U (ix2 j d) + b (ix2 0 d) := by
    pointwise [thinned]
  rw [e]
  have hn := fun k => Reference3Ideal.Ple.norm_at X nw r k
  simp only [hn]
  rfl

theorem gated_at (z : FVec Ideal S16384x512 .f32) (r : Fin 16384) (d : Fin 512) : gated z (ix2 r d) = Cert.Proj.gate (z (ix2 r d)) := by
  refine Eq.trans ?_ (Cert.Proj.gate_host (z (ix2 r d)))
  pointwise [gated, zeros]
  rw [if_neg (fun h => h rfl)]
  rfl

end Cert.Reference5Ideal.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Bridge
public import proofs.«01_k».proof.Proof.FfnRun
public import proofs.«01_k».proof.Proof.FfnRef
public import proofs.«01_k».proof.Proof.Pre
public import Idealize.ShloMosaic.Adequacy
public import Idealize.ShloMosaic.Init
public import proofs.«01_k».proof.Proof.MixRef
public import proofs.«01_k».proof.Proof.PleRef
public import proofs.«01_k».proof.Proof.InRunBits
public import proofs.«01_k».proof.Proof.InVal
public import proofs.«01_k».proof.Proof.InRef
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run

@[expose] public section

noncomputable section

namespace Cert.Proof

open Idealize.ShloMosaic Idealize.SL.Sem Cert.Kernel

/-- The reference's run leaves its arguments as they were; it declares no semaphore. -/
theorem frame_r : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run (F := Ideal) m ρ)

/-- The attention's value: the kernel's array and the reference's are one function of the arguments. -/
theorem attention : @Cert.algebraic_KernelIdeal_ReferenceIdeal_pre_finite Cert.KernelIdeal.Gen.facts Cert.ReferenceIdeal.Gen.facts pre_facts := by
  intro m g m' g' hpre hargs
  have hfin : ∀ c : Dev Cert.KernelIdeal.nD, KernelIdeal.Tile.Finite (KernelIdeal.Tile.argX m c) (KernelIdeal.Tile.argT m c) :=
    fun c => finite_of _ _ (hpre c).1 (hpre c).2
  refine ⟨fun c => ReferenceIdeal.Att.result (KernelIdeal.Tile.argX m c) (KernelIdeal.Tile.argT m c), ?_, ?_⟩
  · refine (θ_run Cert.KernelIdeal.defs _ _).mono (fun r h c => ?_) (Cert.KernelIdeal.Value.run_blocks m g)
    exact ⟨(h c).1.trans (KernelIdeal.Tile.out_eq m c (hfin c)), (h c).2.1, (h c).2.2⟩
  · refine (θ_run Cert.ReferenceIdeal.defs _ _).mono (fun r h c => ?_) (Cert.ReferenceIdeal.Value.run (F := Ideal) m' g')
    refine ⟨(h c).1.trans ?_, (h c).2.1, (h c).2.2⟩
    rw [ReferenceIdeal.Att.res_eq, (hargs c).1, (hargs c).2]

/-- The feed-forward reference's run leaves its arguments as they were; it declares no semaphore. -/
theorem frame_r2 : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- The feed-forward layer's value: the kernel's array and the reference's are one function of the arguments. -/
theorem ffn : @Cert.algebraic_Kernel2Ideal_Reference2Ideal Cert.Kernel2Ideal.Gen.facts Cert.Reference2Ideal.Gen.facts := by
  intro m g m' g' hpre hargs
  refine ⟨fun c => Kernel2Ideal.Ffn.outArr m c, ?_, ?_⟩
  · refine (θ_run Cert.Kernel2Ideal.defs _ _).mono (fun r h c => ?_) (Cert.Kernel2Ideal.Value.run m g)
    exact ⟨(h c).1.trans (Kernel2Ideal.Ffn.out_eq m c), (h c).2⟩
  · refine (θ_run Cert.Reference2Ideal.defs _ _).mono (fun r h c => ?_) (Cert.Reference2Ideal.Value.run (F := Ideal) m' g')
    refine ⟨(h c).1.trans ?_, (h c).2⟩
    refine (Reference2Ideal.Ffn.res_eq m' c).trans ?_
    rw [(hargs c).1, (hargs c).2.1, (hargs c).2.2.1, (hargs c).2.2.2.1, (hargs c).2.2.2.2.1, (hargs c).2.2.2.2.2]
    exact Rows.ext_rows (M := 16384) (N := 2048) fun r d => Reference2Ideal.Ffn.packed_at _ _ _ _ _ _ r d

/-- The closing reference's run leaves its arguments as they were; it declares no semaphore. -/
theorem frame_r3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- The closing block's value: the kernel's array and the reference's are one function of the arguments. -/
theorem ple : @Cert.algebraic_Kernel3Ideal_Reference3Ideal Cert.Kernel3Ideal.Gen.facts Cert.Reference3Ideal.Gen.facts := by
  intro m g m' g' hpre hargs
  refine ⟨fun c => Kernel3Ideal.Ple.outArr m c, ?_, ?_⟩
  · refine (θ_run Cert.Kernel3Ideal.defs _ _).mono (fun r h c => ?_) (Cert.Kernel3Ideal.Value.run_blocks m g)
    exact ⟨(h c).1.trans (Kernel3Ideal.Ple.out_eq m c), (h c).2⟩
  · refine (θ_run Cert.Reference3Ideal.defs _ _).mono (fun r h c => ?_) (Cert.Reference3Ideal.Value.run (F := Ideal) m' g')
    refine ⟨(h c).1.trans ?_, (h c).2⟩
    refine (Reference3Ideal.Ple.res_eq m' c).trans ?_
    rw [(hargs c).1, (hargs c).2.1, (hargs c).2.2.1, (hargs c).2.2.2.1, (hargs c).2.2.2.2.1, (hargs c).2.2.2.2.2]
    exact Rows.ext_rows (M := 16384) (N := 2048) fun r d => Reference3Ideal.Ple.result_at _ _ _ _ _ _ r d

/-- The output projection's reference leaves its arguments as they were; it declares no semaphore. -/
theorem frame_r4 : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- The output projection's value: the kernel's array and the reference's are one function of the arguments. -/
theorem mix : @Cert.algebraic_Kernel4Ideal_Reference4Ideal Cert.Kernel4Ideal.Gen.facts Cert.Reference4Ideal.Gen.facts := by
  intro m g m' g' hpre hargs
  refine ⟨fun c => Kernel4Ideal.Mix.outArr m c, ?_, ?_⟩
  · refine (θ_run Cert.Kernel4Ideal.defs _ _).mono (fun r h c => ?_) (Cert.Kernel4Ideal.Value.run_blocks m g)
    exact ⟨(h c).1.trans (Kernel4Ideal.Mix.out_eq m c), (h c).2⟩
  · refine (θ_run Cert.Reference4Ideal.defs _ _).mono (fun r h c => ?_) (Cert.Reference4Ideal.Value.run (F := Ideal) m' g')
    refine ⟨(h c).1.trans ?_, (h c).2⟩
    rw [(hargs c).1, (hargs c).2.1, (hargs c).2.2.1, (hargs c).2.2.2]
    exact Rows.ext_rows (M := 16384) (N := 2048) fun r d => Reference4Ideal.Mix.result_at _ _ _ _ r d

/-- The input projection's reference leaves its arguments as they were; it declares no semaphore. -/
theorem frame_r5 : Cert.quiescent_Reference5Ideal := by
  intro m ρ _
  exact (θ_run Cert.Reference5Ideal.defs _ _).mono (fun r h => ⟨fun c => (h c).2.2, sem_eq_zero_of_no_sems (by decide) r.2⟩)
    (Cert.Reference5Ideal.Value.run (F := Ideal) m ρ)

/-- The input projection's values: the kernel's two arrays and the reference's are the same functions of the arguments. -/
theorem inproj : @Cert.algebraic_Kernel5Ideal_Reference5Ideal Cert.Kernel5Ideal.Gen.facts Cert.Reference5Ideal.Gen.facts := by
  intro m g m' g' hpre hargs
  refine ⟨fun c => Kernel5Ideal.Proj.projArr m c, fun c => Kernel5Ideal.Proj.gateArr m c, Kernel5Ideal.Proj.run m g, ?_⟩
  refine (θ_run Cert.Reference5Ideal.defs _ _).mono (fun r h c => ?_) (Cert.Reference5Ideal.Value.run (F := Ideal) m' g')
  refine ⟨(h c).1.trans ?_, (h c).2.1.trans ?_, (h c).2.2⟩
  · rw [(hargs c).1, (hargs c).2.1, (hargs c).2.2.1]
    exact Rows.ext_rows (M := 16384) (N := 6144) fun r d => Reference5Ideal.Proj.projected_at _ _ _ r d
  · refine (Reference5Ideal.Proj.res_eq m' c).trans ?_
    rw [(hargs c).1, (hargs c).2.1, (hargs c).2.2.2.1, (hargs c).2.2.2.2.1, (hargs c).2.2.2.2.2]
    exact Rows.ext_rows (M := 16384) (N := 512) fun r d => (Reference5Ideal.Proj.gated_at _ r d).trans (congrArg Cert.Proj.gate (Reference5Ideal.Proj.thinned_at _ _ _ _ _ r d))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, pre_facts,
  fun m ρ _ => Cert.Kernel.Gen.frame m ρ, fun m ρ _ => Cert.KernelIdeal.Gen.frame m ρ, fun m ρ _ => Cert.KernelIdeal.Gen.frame m ρ,
  frame_r, fun m ρ _ => frame_r m ρ trivial,
  fun m ρ _ => Cert.Kernel2.Gen.frame m ρ, fun m ρ _ => Cert.Kernel2Ideal.Gen.frame m ρ, frame_r2,
  fun m ρ _ => Cert.Kernel3.Gen.frame m ρ, fun m ρ _ => Cert.Kernel3Ideal.Gen.frame m ρ, frame_r3,
  fun m ρ _ => Cert.Kernel4.Gen.frame m ρ, fun m ρ _ => Cert.Kernel4Ideal.Gen.frame m ρ, frame_r4,
  fun m ρ _ => Cert.Kernel5.Proj.framed m ρ, fun m ρ _ => Cert.Kernel5Ideal.Proj.framed m ρ, frame_r5,
  trivial, attention, trivial, ffn, trivial, ple, trivial, mix, trivial, inproj⟩

end Cert.Proof

end
